-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x3584 : Shape := ⟨3, ![1, 4096, 3584]⟩
abbrev S1x4096x28 : Shape := ⟨3, ![1, 4096, 28]⟩
abbrev S3584x9472 : Shape := ⟨2, ![3584, 9472]⟩
abbrev S28x74 : Shape := ⟨2, ![28, 74]⟩
abbrev S1x4096x9472 : Shape := ⟨3, ![1, 4096, 9472]⟩
abbrev S4096x3584 : Shape := ⟨2, ![4096, 3584]⟩
abbrev S4096x28 : Shape := ⟨2, ![4096, 28]⟩
abbrev S4096x9472 : Shape := ⟨2, ![4096, 9472]⟩
abbrev S3584x256 : Shape := ⟨2, ![3584, 256]⟩
abbrev S4096x256 : Shape := ⟨2, ![4096, 256]⟩
abbrev S128x1 : Shape := ⟨2, ![128, 1]⟩
abbrev S128x128 : Shape := ⟨2, ![128, 128]⟩
abbrev S1x1 : Shape := ⟨2, ![1, 1]⟩
abbrev S512x3584 : Shape := ⟨2, ![512, 3584]⟩
abbrev S512x256 : Shape := ⟨2, ![512, 256]⟩

abbrev nBuf : Space → Nat
  | .hbm => 9
  | .vmem => 10
  | .smem => 1
  | _ => 0

abbrev bufTy : (tb : Table) → Fin (tcTables nBuf tb) → BufTy
  | .hbm, ⟨0, _⟩ => ⟨S1x4096x3584, .fp8e4m3⟩
  | .hbm, ⟨1, _⟩ => ⟨S1x4096x28, .f32⟩
  | .hbm, ⟨2, _⟩ => ⟨S3584x9472, .fp8e4m3⟩
  | .hbm, ⟨3, _⟩ => ⟨S28x74, .f32⟩
  | .hbm, ⟨4, _⟩ => ⟨S1x4096x9472, .bf16⟩
  | .hbm, ⟨5, _⟩ => ⟨S4096x3584, .fp8e4m3⟩
  | .hbm, ⟨6, _⟩ => ⟨S4096x28, .f32⟩
  | .hbm, ⟨7, _⟩ => ⟨S4096x9472, .bf16⟩
  | .hbm, ⟨8, _⟩ => ⟨S4096x9472, .bf16⟩
  | .local _ .vmem, ⟨0, _⟩ => ⟨S4096x3584, .fp8e4m3⟩
  | .local _ .vmem, ⟨1, _⟩ => ⟨S4096x28, .f32⟩
  | .local _ .vmem, ⟨2, _⟩ => ⟨S3584x256, .fp8e4m3⟩
  | .local _ .vmem, ⟨3, _⟩ => ⟨S3584x256, .fp8e4m3⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x3584, .bf16⟩
  | .local _ .vmem, ⟨9, _⟩ => ⟨S3584x256, .bf16⟩
  | .local _ .smem, ⟨0, _⟩ => ⟨S28x74, .f32⟩
  | _, _ => ⟨S1x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_339 : BitVec 32 := 0#32
  let c32_i32 : BitVec 32 := 32#32
  let v676 : BitVec 32 := Scalar.addi c0_i32_339 c32_i32
  let c1_i32_340 : BitVec 32 := 1#32
  ⟨c0_i32_339, v676, c1_i32_340⟩
def k0_off1 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v678 : Index := Scalar.indexCast v677
  let c0_342 : Index := 0#32
  ![v678.toNat, 0]
def k0_off2 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v684 : Index := Scalar.indexCast v677
  let c0_343 : Index := 0#32
  ![v684.toNat, 0]
def k0_off3 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v693 : Index := Scalar.indexCast v677
  let c1_345 : Index := 1#32
  ![v693.toNat, 1]
def k0_off4 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v699 : Index := Scalar.indexCast v677
  let c128_346 : Index := 128#32
  ![v699.toNat, 128]
def k0_off5 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v708 : Index := Scalar.indexCast v677
  let c2_348 : Index := 2#32
  ![v708.toNat, 2]
def k0_off6 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v714 : Index := Scalar.indexCast v677
  let c256_349 : Index := 256#32
  ![v714.toNat, 256]
def k0_off7 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v723 : Index := Scalar.indexCast v677
  let c3_351 : Index := 3#32
  ![v723.toNat, 3]
def k0_off8 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v729 : Index := Scalar.indexCast v677
  let c384_352 : Index := 384#32
  ![v729.toNat, 384]
def k0_off9 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v738 : Index := Scalar.indexCast v677
  let c4_354 : Index := 4#32
  ![v738.toNat, 4]
def k0_off10 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v744 : Index := Scalar.indexCast v677
  let c512_355 : Index := 512#32
  ![v744.toNat, 512]
def k0_off11 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v753 : Index := Scalar.indexCast v677
  let c5_357 : Index := 5#32
  ![v753.toNat, 5]
def k0_off12 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v759 : Index := Scalar.indexCast v677
  let c640_358 : Index := 640#32
  ![v759.toNat, 640]
def k0_off13 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v768 : Index := Scalar.indexCast v677
  let c6_360 : Index := 6#32
  ![v768.toNat, 6]
def k0_off14 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v774 : Index := Scalar.indexCast v677
  let c768_361 : Index := 768#32
  ![v774.toNat, 768]
def k0_off15 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v783 : Index := Scalar.indexCast v677
  let c7_363 : Index := 7#32
  ![v783.toNat, 7]
def k0_off16 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v789 : Index := Scalar.indexCast v677
  let c896_364 : Index := 896#32
  ![v789.toNat, 896]
def k0_off17 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v798 : Index := Scalar.indexCast v677
  let c8_366 : Index := 8#32
  ![v798.toNat, 8]
def k0_off18 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v804 : Index := Scalar.indexCast v677
  let c1024_367 : Index := 1024#32
  ![v804.toNat, 1024]
def k0_off19 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v813 : Index := Scalar.indexCast v677
  let c9_369 : Index := 9#32
  ![v813.toNat, 9]
def k0_off20 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v819 : Index := Scalar.indexCast v677
  let c1152_370 : Index := 1152#32
  ![v819.toNat, 1152]
def k0_off21 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v828 : Index := Scalar.indexCast v677
  let c10_372 : Index := 10#32
  ![v828.toNat, 10]
def k0_off22 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v834 : Index := Scalar.indexCast v677
  let c1280_373 : Index := 1280#32
  ![v834.toNat, 1280]
def k0_off23 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v843 : Index := Scalar.indexCast v677
  let c11_375 : Index := 11#32
  ![v843.toNat, 11]
def k0_off24 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v849 : Index := Scalar.indexCast v677
  let c1408_376 : Index := 1408#32
  ![v849.toNat, 1408]
def k0_off25 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v858 : Index := Scalar.indexCast v677
  let c12_378 : Index := 12#32
  ![v858.toNat, 12]
def k0_off26 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v864 : Index := Scalar.indexCast v677
  let c1536_379 : Index := 1536#32
  ![v864.toNat, 1536]
def k0_off27 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v873 : Index := Scalar.indexCast v677
  let c13_381 : Index := 13#32
  ![v873.toNat, 13]
def k0_off28 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v879 : Index := Scalar.indexCast v677
  let c1664_382 : Index := 1664#32
  ![v879.toNat, 1664]
def k0_off29 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v888 : Index := Scalar.indexCast v677
  let c14_384 : Index := 14#32
  ![v888.toNat, 14]
def k0_off30 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v894 : Index := Scalar.indexCast v677
  let c1792_385 : Index := 1792#32
  ![v894.toNat, 1792]
def k0_off31 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v903 : Index := Scalar.indexCast v677
  let c15_387 : Index := 15#32
  ![v903.toNat, 15]
def k0_off32 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v909 : Index := Scalar.indexCast v677
  let c1920_388 : Index := 1920#32
  ![v909.toNat, 1920]
def k0_off33 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v918 : Index := Scalar.indexCast v677
  let c16_390 : Index := 16#32
  ![v918.toNat, 16]
def k0_off34 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v924 : Index := Scalar.indexCast v677
  let c2048_391 : Index := 2048#32
  ![v924.toNat, 2048]
def k0_off35 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v933 : Index := Scalar.indexCast v677
  let c17_393 : Index := 17#32
  ![v933.toNat, 17]
def k0_off36 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v939 : Index := Scalar.indexCast v677
  let c2176_394 : Index := 2176#32
  ![v939.toNat, 2176]
def k0_off37 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v948 : Index := Scalar.indexCast v677
  let c18_396 : Index := 18#32
  ![v948.toNat, 18]
def k0_off38 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v954 : Index := Scalar.indexCast v677
  let c2304_397 : Index := 2304#32
  ![v954.toNat, 2304]
def k0_off39 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v963 : Index := Scalar.indexCast v677
  let c19_399 : Index := 19#32
  ![v963.toNat, 19]
def k0_off40 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v969 : Index := Scalar.indexCast v677
  let c2432_400 : Index := 2432#32
  ![v969.toNat, 2432]
def k0_off41 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v978 : Index := Scalar.indexCast v677
  let c20_402 : Index := 20#32
  ![v978.toNat, 20]
def k0_off42 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v984 : Index := Scalar.indexCast v677
  let c2560_403 : Index := 2560#32
  ![v984.toNat, 2560]
def k0_off43 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v993 : Index := Scalar.indexCast v677
  let c21_405 : Index := 21#32
  ![v993.toNat, 21]
def k0_off44 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v999 : Index := Scalar.indexCast v677
  let c2688_406 : Index := 2688#32
  ![v999.toNat, 2688]
def k0_off45 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1008 : Index := Scalar.indexCast v677
  let c22_408 : Index := 22#32
  ![v1008.toNat, 22]
def k0_off46 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1014 : Index := Scalar.indexCast v677
  let c2816_409 : Index := 2816#32
  ![v1014.toNat, 2816]
def k0_off47 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1023 : Index := Scalar.indexCast v677
  let c23_411 : Index := 23#32
  ![v1023.toNat, 23]
def k0_off48 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1029 : Index := Scalar.indexCast v677
  let c2944_412 : Index := 2944#32
  ![v1029.toNat, 2944]
def k0_off49 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1038 : Index := Scalar.indexCast v677
  let c24_414 : Index := 24#32
  ![v1038.toNat, 24]
def k0_off50 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1044 : Index := Scalar.indexCast v677
  let c3072_415 : Index := 3072#32
  ![v1044.toNat, 3072]
def k0_off51 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1053 : Index := Scalar.indexCast v677
  let c25_417 : Index := 25#32
  ![v1053.toNat, 25]
def k0_off52 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1059 : Index := Scalar.indexCast v677
  let c3200_418 : Index := 3200#32
  ![v1059.toNat, 3200]
def k0_off53 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1068 : Index := Scalar.indexCast v677
  let c26_420 : Index := 26#32
  ![v1068.toNat, 26]
def k0_off54 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1074 : Index := Scalar.indexCast v677
  let c3328_421 : Index := 3328#32
  ![v1074.toNat, 3328]
def k0_off55 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1083 : Index := Scalar.indexCast v677
  let c27_423 : Index := 27#32
  ![v1083.toNat, 27]
def k0_off56 (k0_t1 : Fin k0_t1_loop.trips) : Fin 2 → Nat :=
  let c0_i32_339 : BitVec 32 := 0#32
  let c1_i32_340 : BitVec 32 := 1#32
  let arg9 : BitVec 32 := Scf.iv c0_i32_339 c1_i32_340 k0_t1
  let c128_i32 : BitVec 32 := 128#32
  let v677 : BitVec 32 := Scalar.muli arg9 c128_i32
  let v1089 : Index := Scalar.indexCast v677
  let c3456_424 : Index := 3456#32
  ![v1089.toNat, 3456]
def k0_off57 (i : grid0.Coords) (c0_i32_1 : BitVec 32) : Fin 2 → Nat :=
  let c0 : Index := 0#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v5 : Index := Scalar.indexCast v4
  ![0, v5.toNat]
def k0_off58 (i : grid0.Coords) (c0_i32_12 : BitVec 32) : Fin 2 → Nat :=
  let c1 : Index := 1#32
  let arg0 : BitVec 32 := BitVec.ofNat 32 (i 0).val
  let c2_i32_11 : BitVec 32 := 2#32
  let v27 : BitVec 32 := Scalar.muli arg0 c2_i32_11
  let v28 : BitVec 32 := Scalar.addi v27 c0_i32_12
  let v29 : Index := Scalar.indexCast v28
  ![1, v29.toNat]
def k0_off59 (i : grid0.Coords) (c0_i32_25 : BitVec 32) : Fin 2 → Nat :=
  let c2 : Index := 2#32
  let arg0 : BitVec 32 := BitVec.ofNat 32 (i 0).val
  let c2_i32_24 : BitVec 32 := 2#32
  let v51 : BitVec 32 := Scalar.muli arg0 c2_i32_24
  let v52 : BitVec 32 := Scalar.addi v51 c0_i32_25
  let v53 : Index := Scalar.indexCast v52
  ![2, v53.toNat]
def k0_off60 (i : grid0.Coords) (c0_i32_37 : BitVec 32) : Fin 2 → Nat :=
  let c3 : Index := 3#32
  let arg0 : BitVec 32 := BitVec.ofNat 32 (i 0).val
  let c2_i32_36 : BitVec 32 := 2#32
  let v75 : BitVec 32 := Scalar.muli arg0 c2_i32_36
  let v76 : BitVec 32 := Scalar.addi v75 c0_i32_37
  let v77 : Index := Scalar.indexCast v76
  ![3, v77.toNat]
def k0_off61 (i : grid0.Coords) (c0_i32_49 : BitVec 32) : Fin 2 → Nat :=
  let c4 : Index := 4#32
  let arg0 : BitVec 32 := BitVec.ofNat 32 (i 0).val
  let c2_i32_48 : BitVec 32 := 2#32
  let v99 : BitVec 32 := Scalar.muli arg0 c2_i32_48
  let v100 : BitVec 32 := Scalar.addi v99 c0_i32_49
  let v101 : Index := Scalar.indexCast v100
  ![4, v101.toNat]
def k0_off62 (i : grid0.Coords) (c0_i32_61 : BitVec 32) : Fin 2 → Nat :=
  let c5 : Index := 5#32
  let arg0 : BitVec 32 := BitVec.ofNat 32 (i 0).val
  let c2_i32_60 : BitVec 32 := 2#32
  let v123 : BitVec 32 := Scalar.muli arg0 c2_i32_60
  let v124 : BitVec 32 := Scalar.addi v123 c0_i32_61
  let v125 : Index := Scalar.indexCast v124
  ![5, v125.toNat]
def k0_off63 (i : grid0.Coords) (c0_i32_73 : BitVec 32) : Fin 2 → Nat :=
  let c6 : Index := 6#32
  let arg0 : BitVec 32 := BitVec.ofNat 32 (i 0).val
  let c2_i32_72 : BitVec 32 := 2#32
  let v147 : BitVec 32 := Scalar.muli arg0 c2_i32_72
  let v148 : BitVec 32 := Scalar.addi v147 c0_i32_73
  let v149 : Index := Scalar.indexCast v148
  ![6, v149.toNat]
def k0_off64 (i : grid0.Coords) (c0_i32_85 : BitVec 32) : Fin 2 → Nat :=
  let c7 : Index := 7#32
  let arg0 : BitVec 32 := BitVec.ofNat 32 (i 0).val
  let c2_i32_84 : BitVec 32 := 2#32
  let v171 : BitVec 32 := Scalar.muli arg0 c2_i32_84
  let v172 : BitVec 32 := Scalar.addi v171 c0_i32_85
  let v173 : Index := Scalar.indexCast v172
  ![7, v173.toNat]
def k0_off65 (i : grid0.Coords) (c0_i32_97 : BitVec 32) : Fin 2 → Nat :=
  let c8 : Index := 8#32
  let arg0 : BitVec 32 := BitVec.ofNat 32 (i 0).val
  let c2_i32_96 : BitVec 32 := 2#32
  let v195 : BitVec 32 := Scalar.muli arg0 c2_i32_96
  let v196 : BitVec 32 := Scalar.addi v195 c0_i32_97
  let v197 : Index := Scalar.indexCast v196
  ![8, v197.toNat]
def k0_off66 (i : grid0.Coords) (c0_i32_109 : BitVec 32) : Fin 2 → Nat :=
  let c9 : Index := 9#32
  let arg0 : BitVec 32 := BitVec.ofNat 32 (i 0).val
  let c2_i32_108 : BitVec 32 := 2#32
  let v219 : BitVec 32 := Scalar.muli arg0 c2_i32_108
  let v220 : BitVec 32 := Scalar.addi v219 c0_i32_109
  let v221 : Index := Scalar.indexCast v220
  ![9, v221.toNat]
def k0_off67 (i : grid0.Coords) (c0_i32_121 : BitVec 32) : Fin 2 → Nat :=
  let c10 : Index := 10#32
  let arg0 : BitVec 32 := BitVec.ofNat 32 (i 0).val
  let c2_i32_120 : BitVec 32 := 2#32
  let v243 : BitVec 32 := Scalar.muli arg0 c2_i32_120
  let v244 : BitVec 32 := Scalar.addi v243 c0_i32_121
  let v245 : Index := Scalar.indexCast v244
  ![10, v245.toNat]
def k0_off68 (i : grid0.Coords) (c0_i32_133 : BitVec 32) : Fin 2 → Nat :=
  let c11 : Index := 11#32
  let arg0 : BitVec 32 := BitVec.ofNat 32 (i 0).val
  let c2_i32_132 : BitVec 32 := 2#32
  let v267 : BitVec 32 := Scalar.muli arg0 c2_i32_132
  let v268 : BitVec 32 := Scalar.addi v267 c0_i32_133
  let v269 : Index := Scalar.indexCast v268
  ![11, v269.toNat]
def k0_off69 (i : grid0.Coords) (c0_i32_145 : BitVec 32) : Fin 2 → Nat :=
  let c12 : Index := 12#32
  let arg0 : BitVec 32 := BitVec.ofNat 32 (i 0).val
  let c2_i32_144 : BitVec 32 := 2#32
  let v291 : BitVec 32 := Scalar.muli arg0 c2_i32_144
  let v292 : BitVec 32 := Scalar.addi v291 c0_i32_145
  let v293 : Index := Scalar.indexCast v292
  ![12, v293.toNat]
def k0_off70 (i : grid0.Coords) (c0_i32_157 : BitVec 32) : Fin 2 → Nat :=
  let c13 : Index := 13#32
  let arg0 : BitVec 32 := BitVec.ofNat 32 (i 0).val
  let c2_i32_156 : BitVec 32 := 2#32
  let v315 : BitVec 32 := Scalar.muli arg0 c2_i32_156
  let v316 : BitVec 32 := Scalar.addi v315 c0_i32_157
  let v317 : Index := Scalar.indexCast v316
  ![13, v317.toNat]
def k0_off71 (i : grid0.Coords) (c0_i32_169 : BitVec 32) : Fin 2 → Nat :=
  let c14 : Index := 14#32
  let arg0 : BitVec 32 := BitVec.ofNat 32 (i 0).val
  let c2_i32_168 : BitVec 32 := 2#32
  let v339 : BitVec 32 := Scalar.muli arg0 c2_i32_168
  let v340 : BitVec 32 := Scalar.addi v339 c0_i32_169
  let v341 : Index := Scalar.indexCast v340
  ![14, v341.toNat]
def k0_off72 (i : grid0.Coords) (c0_i32_181 : BitVec 32) : Fin 2 → Nat :=
  let c15 : Index := 15#32
  let arg0 : BitVec 32 := BitVec.ofNat 32 (i 0).val
  let c2_i32_180 : BitVec 32 := 2#32
  let v363 : BitVec 32 := Scalar.muli arg0 c2_i32_180
  let v364 : BitVec 32 := Scalar.addi v363 c0_i32_181
  let v365 : Index := Scalar.indexCast v364
  ![15, v365.toNat]
def k0_off73 (i : grid0.Coords) (c0_i32_193 : BitVec 32) : Fin 2 → Nat :=
  let c16 : Index := 16#32
  let arg0 : BitVec 32 := BitVec.ofNat 32 (i 0).val
  let c2_i32_192 : BitVec 32 := 2#32
  let v387 : BitVec 32 := Scalar.muli arg0 c2_i32_192
  let v388 : BitVec 32 := Scalar.addi v387 c0_i32_193
  let v389 : Index := Scalar.indexCast v388
  ![16, v389.toNat]
def k0_off74 (i : grid0.Coords) (c0_i32_205 : BitVec 32) : Fin 2 → Nat :=
  let c17 : Index := 17#32
  let arg0 : BitVec 32 := BitVec.ofNat 32 (i 0).val
  let c2_i32_204 : BitVec 32 := 2#32
  let v411 : BitVec 32 := Scalar.muli arg0 c2_i32_204
  let v412 : BitVec 32 := Scalar.addi v411 c0_i32_205
  let v413 : Index := Scalar.indexCast v412
  ![17, v413.toNat]
def k0_off75 (i : grid0.Coords) (c0_i32_217 : BitVec 32) : Fin 2 → Nat :=
  let c18 : Index := 18#32
  let arg0 : BitVec 32 := BitVec.ofNat 32 (i 0).val
  let c2_i32_216 : BitVec 32 := 2#32
  let v435 : BitVec 32 := Scalar.muli arg0 c2_i32_216
  let v436 : BitVec 32 := Scalar.addi v435 c0_i32_217
  let v437 : Index := Scalar.indexCast v436
  ![18, v437.toNat]
def k0_off76 (i : grid0.Coords) (c0_i32_229 : BitVec 32) : Fin 2 → Nat :=
  let c19 : Index := 19#32
  let arg0 : BitVec 32 := BitVec.ofNat 32 (i 0).val
  let c2_i32_228 : BitVec 32 := 2#32
  let v459 : BitVec 32 := Scalar.muli arg0 c2_i32_228
  let v460 : BitVec 32 := Scalar.addi v459 c0_i32_229
  let v461 : Index := Scalar.indexCast v460
  ![19, v461.toNat]
def k0_off77 (i : grid0.Coords) (c0_i32_241 : BitVec 32) : Fin 2 → Nat :=
  let c20 : Index := 20#32
  let arg0 : BitVec 32 := BitVec.ofNat 32 (i 0).val
  let c2_i32_240 : BitVec 32 := 2#32
  let v483 : BitVec 32 := Scalar.muli arg0 c2_i32_240
  let v484 : BitVec 32 := Scalar.addi v483 c0_i32_241
  let v485 : Index := Scalar.indexCast v484
  ![20, v485.toNat]
def k0_off78 (i : grid0.Coords) (c0_i32_253 : BitVec 32) : Fin 2 → Nat :=
  let c21 : Index := 21#32
  let arg0 : BitVec 32 := BitVec.ofNat 32 (i 0).val
  let c2_i32_252 : BitVec 32 := 2#32
  let v507 : BitVec 32 := Scalar.muli arg0 c2_i32_252
  let v508 : BitVec 32 := Scalar.addi v507 c0_i32_253
  let v509 : Index := Scalar.indexCast v508
  ![21, v509.toNat]
def k0_off79 (i : grid0.Coords) (c0_i32_265 : BitVec 32) : Fin 2 → Nat :=
  let c22 : Index := 22#32
  let arg0 : BitVec 32 := BitVec.ofNat 32 (i 0).val
  let c2_i32_264 : BitVec 32 := 2#32
  let v531 : BitVec 32 := Scalar.muli arg0 c2_i32_264
  let v532 : BitVec 32 := Scalar.addi v531 c0_i32_265
  let v533 : Index := Scalar.indexCast v532
  ![22, v533.toNat]
def k0_off80 (i : grid0.Coords) (c0_i32_277 : BitVec 32) : Fin 2 → Nat :=
  let c23 : Index := 23#32
  let arg0 : BitVec 32 := BitVec.ofNat 32 (i 0).val
  let c2_i32_276 : BitVec 32 := 2#32
  let v555 : BitVec 32 := Scalar.muli arg0 c2_i32_276
  let v556 : BitVec 32 := Scalar.addi v555 c0_i32_277
  let v557 : Index := Scalar.indexCast v556
  ![23, v557.toNat]
def k0_off81 (i : grid0.Coords) (c0_i32_289 : BitVec 32) : Fin 2 → Nat :=
  let c24 : Index := 24#32
  let arg0 : BitVec 32 := BitVec.ofNat 32 (i 0).val
  let c2_i32_288 : BitVec 32 := 2#32
  let v579 : BitVec 32 := Scalar.muli arg0 c2_i32_288
  let v580 : BitVec 32 := Scalar.addi v579 c0_i32_289
  let v581 : Index := Scalar.indexCast v580
  ![24, v581.toNat]
def k0_off82 (i : grid0.Coords) (c0_i32_301 : BitVec 32) : Fin 2 → Nat :=
  let c25 : Index := 25#32
  let arg0 : BitVec 32 := BitVec.ofNat 32 (i 0).val
  let c2_i32_300 : BitVec 32 := 2#32
  let v603 : BitVec 32 := Scalar.muli arg0 c2_i32_300
  let v604 : BitVec 32 := Scalar.addi v603 c0_i32_301
  let v605 : Index := Scalar.indexCast v604
  ![25, v605.toNat]
def k0_off83 (i : grid0.Coords) (c0_i32_313 : BitVec 32) : Fin 2 → Nat :=
  let c26 : Index := 26#32
  let arg0 : BitVec 32 := BitVec.ofNat 32 (i 0).val
  let c2_i32_312 : BitVec 32 := 2#32
  let v627 : BitVec 32 := Scalar.muli arg0 c2_i32_312
  let v628 : BitVec 32 := Scalar.addi v627 c0_i32_313
  let v629 : Index := Scalar.indexCast v628
  ![26, v629.toNat]
def k0_off84 (i : grid0.Coords) (c0_i32_325 : BitVec 32) : Fin 2 → Nat :=
  let c27 : Index := 27#32
  let arg0 : BitVec 32 := BitVec.ofNat 32 (i 0).val
  let c2_i32_324 : BitVec 32 := 2#32
  let v651 : BitVec 32 := Scalar.muli arg0 c2_i32_324
  let v652 : BitVec 32 := Scalar.addi v651 c0_i32_325
  let v653 : Index := Scalar.indexCast v652
  ![27, v653.toNat]
@[reducible] def k0_t2_loop : Scf.Loop 32 :=
  let c0_i32_336 : BitVec 32 := 0#32
  let c8_i32 : BitVec 32 := 8#32
  let v675 : BitVec 32 := Scalar.addi c0_i32_336 c8_i32
  let c1_i32_337 : BitVec 32 := 1#32
  ⟨c0_i32_336, v675, c1_i32_337⟩
def k0_off85 (k0_t2 : Fin k0_t2_loop.trips) : Fin 2 → Nat :=
  let c0_i32_336 : BitVec 32 := 0#32
  let c1_i32_337 : BitVec 32 := 1#32
  let arg9 : BitVec 32 := Scf.iv c0_i32_336 c1_i32_337 k0_t2
  let c512_i32 : BitVec 32 := 512#32
  let v676 : BitVec 32 := Scalar.muli arg9 c512_i32
  let v677 : Index := Scalar.indexCast v676
  let c0_339 : Index := 0#32
  ![v677.toNat, 0]
def k0_off86 (k0_t2 : Fin k0_t2_loop.trips) : Fin 2 → Nat :=
  let c0_i32_336 : BitVec 32 := 0#32
  let c1_i32_337 : BitVec 32 := 1#32
  let arg9 : BitVec 32 := Scf.iv c0_i32_336 c1_i32_337 k0_t2
  let c512_i32 : BitVec 32 := 512#32
  let v676 : BitVec 32 := Scalar.muli arg9 c512_i32
  let v681 : Index := Scalar.indexCast v676
  let c0_342 : Index := 0#32
  ![v681.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S28x74 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x4096x3584 : Shape := ⟨3, ![1, 4096, 3584]⟩
abbrev S1x4096x28 : Shape := ⟨3, ![1, 4096, 28]⟩
abbrev S3584x9472 : Shape := ⟨2, ![3584, 9472]⟩
abbrev S28x74 : Shape := ⟨2, ![28, 74]⟩
abbrev S1x4096x9472 : Shape := ⟨3, ![1, 4096, 9472]⟩
abbrev S4096x9472 : Shape := ⟨2, ![4096, 9472]⟩
abbrev S1x4096x28x128 : Shape := ⟨4, ![1, 4096, 28, 128]⟩
abbrev S1x4096x28x1 : Shape := ⟨4, ![1, 4096, 28, 1]⟩
abbrev S28x128x74x128 : Shape := ⟨4, ![28, 128, 74, 128]⟩
abbrev S28x1x74x1 : Shape := ⟨4, ![28, 1, 74, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x3584, .fp8e4m3⟩
  | .hbm, ⟨1, _⟩ => ⟨S1x4096x28, .f32⟩
  | .hbm, ⟨2, _⟩ => ⟨S3584x9472, .fp8e4m3⟩
  | .hbm, ⟨3, _⟩ => ⟨S28x74, .f32⟩
  | .hbm, ⟨4, _⟩ => ⟨S1x4096x9472, .bf16⟩
  | .hbm, ⟨5, _⟩ => ⟨S4096x9472, .bf16⟩
  | .local _ .vmem, ⟨0, _⟩ => ⟨S1x4096x3584, .fp8e4m3⟩
  | .local _ .vmem, ⟨1, _⟩ => ⟨S1x4096x28, .f32⟩
  | .local _ .vmem, ⟨2, _⟩ => ⟨S3584x9472, .fp8e4m3⟩
  | .local _ .vmem, ⟨3, _⟩ => ⟨S28x74, .f32⟩
  | .local _ .vmem, ⟨4, _⟩ => ⟨S1x4096x9472, .bf16⟩
  | .local _ .vmem, ⟨5, _⟩ => ⟨S4096x9472, .bf16⟩
  | _, _ => ⟨S1x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x9472 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x74 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x9472 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x9472 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  The body of the kernel as printed, at any float semantics, as a triple that names no contents it computes: on staging
  buffers it runs, with its inputs as they were and its other buffers at some contents.
-/
module

public import proofs.«01_k».proof.Proof.Gen.Kernel.Frame.Runs

@[expose] public section

set_option maxRecDepth 16384

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, where it also fills the activation scratch. -/
theorem run_A (c : Dev nD) (i : grid0.Coords) (arg1 : Memref sig .tc .smem S28x74 .f32) (harg1 : arg1.IsWhole) (arg2 : Memref sig .tc .vmem S4096x3584 .fp8e4m3) (harg2 : arg2.IsWhole) (arg3 : Memref sig .tc .vmem S4096x28 .f32) (harg3 : arg3.IsWhole) (arg4 : Memref sig .tc .vmem S3584x256 .fp8e4m3) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x3584 .bf16) (harg7 : arg7.IsWhole) (arg8 : Memref sig .tc .vmem S3584x256 .bf16) (harg8 : arg8.IsWhole) (hc0 : cond0_0 i)
    (x0 : Vec F S28x74 .f32) (x1 : Vec F S4096x3584 .fp8e4m3) (x2 : Vec F S4096x28 .f32) (x3 : Vec F S3584x256 .fp8e4m3) (x4 : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fp8_down_proj i arg1 harg1 arg2 harg2 arg3 harg3 arg4 harg4 arg5 harg5 arg6 harg6 arg7 harg7 arg8 harg8) K := by
  simp only [cc0_fp8_down_proj_eq_skeleton]; unfold cc0_fp8_down_proj_skel
  simp only [k0_part28_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [HS0]
  · iexists _, _; isplitr; swap; · iexact HS0
    ipureintro; rfl
  iexists _, _; isplitr; swap; · iexact HS1
  ipureintro; rfl

set_option maxHeartbeats 4000000 in
/-- The body at any later point. -/
theorem run_B (c : Dev nD) (i : grid0.Coords) (arg1 : Memref sig .tc .smem S28x74 .f32) (harg1 : arg1.IsWhole) (arg2 : Memref sig .tc .vmem S4096x3584 .fp8e4m3) (harg2 : arg2.IsWhole) (arg3 : Memref sig .tc .vmem S4096x28 .f32) (harg3 : arg3.IsWhole) (arg4 : Memref sig .tc .vmem S3584x256 .fp8e4m3) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x3584 .bf16) (harg7 : arg7.IsWhole) (arg8 : Memref sig .tc .vmem S3584x256 .bf16) (harg8 : arg8.IsWhole) (hc0 : ¬cond0_0 i)
    (x0 : Vec F S28x74 .f32) (x1 : Vec F S4096x3584 .fp8e4m3) (x2 : Vec F S4096x28 .f32) (x3 : Vec F S3584x256 .fp8e4m3) (x4 : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fp8_down_proj i arg1 harg1 arg2 harg2 arg3 harg3 arg4 harg4 arg5 harg5 arg6 harg6 arg7 harg7 arg8 harg8) K := by
  simp only [cc0_fp8_down_proj_eq_skeleton]; unfold cc0_fp8_down_proj_skel
  simp only [k0_part28_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [HS0]
  · iexists _, _; isplitr; swap; · iexact HS0
    ipureintro; rfl
  iexists _, _; isplitr; swap; · iexact HS1
  ipureintro; rfl

end Cert.Proof.KernelRun

end

end
-- ==== Proof.KernelFrame.lean ====
/-
  The run of the kernel as printed, at any float semantics: it ends, with its arguments unchanged and every semaphore
  counter at zero. What it leaves in the result is not named here.
-/
module

public import proofs.«01_k».proof.Proof.KernelRun
public import Idealize.ShloMosaic.Lib.Claim

@[expose] public section

set_option maxRecDepth 16384

noncomputable section

namespace Cert.Proof.KernelFrame

open Cert.Kernel Cert.Kernel.Gen Cert.Proof.KernelRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point, by its two cases. -/
theorem run_at (c : Dev nD) (i : grid0.Coords) (arg1 : Memref sig .tc .smem S28x74 .f32) (harg1 : arg1.IsWhole) (arg2 : Memref sig .tc .vmem S4096x3584 .fp8e4m3) (harg2 : arg2.IsWhole) (arg3 : Memref sig .tc .vmem S4096x28 .f32) (harg3 : arg3.IsWhole) (arg4 : Memref sig .tc .vmem S3584x256 .fp8e4m3) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x3584 .bf16) (harg7 : arg7.IsWhole) (arg8 : Memref sig .tc .vmem S3584x256 .bf16) (harg8 : arg8.IsWhole)
    (x0 : Vec F S28x74 .f32) (x1 : Vec F S4096x3584 .fp8e4m3) (x2 : Vec F S4096x28 .f32) (x3 : Vec F S3584x256 .fp8e4m3) (x4 : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fp8_down_proj i arg1 harg1 arg2 harg2 arg3 harg3 arg4 harg4 arg5 harg5 arg6 harg6 arg7 harg7 arg8 harg8) K := by
  by_cases hc0 : cond0_0 i
  · exact run_A c i arg1 harg1 arg2 harg2 arg3 harg3 arg4 harg4 arg5 harg5 arg6 harg6 arg7 harg7 arg8 harg8 hc0 x0 x1 x2 x3 x4 E K
  · exact run_B c i arg1 harg1 arg2 harg2 arg3 harg3 arg4 harg4 arg5 harg5 arg6 harg6 arg7 harg7 arg8 harg8 hc0 x0 x1 x2 x3 x4 E K

/-! ## The pipeline's proof data -/

/-- The window whose contents this frame does not name: the result's. -/
def forgets0 : Fin 6 → Bool := fun w => w.val == 5

/-- The proof data of the one pipeline on core `c`: the arrays as the region finds them (`V`); after the body at point `t`
    each input's buffer at its block, the result's at contents nothing names; between points the scratch buffers at some
    contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 6400000 in
/-- The body at any point: its triple (`KernelRun.run_A` at the first, `run_B` at the others), the invariant handing it the
    scratch buffers at some contents and taking them back so. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run_at c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The frame claim's statement from a frame run over any proof data whose arrays are those the region finds: each argument
    array ends as launched. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 0 rfl).trans ((hA c 0).trans (V_main_arg3 m c)),
      ((h c).2 main_arg4 (Pipeline.mem_restRefs_of main_arg4 (by decide) (by decide))).trans (V_main_arg4 m c)⟩) h

-- `θ_run_frame_track_forget`'s implicit arguments are found by unifying its conclusion with this one, which takes unfolding plain
-- definitions in a metavariable's type
set_option backward.isDefEq.respectTransparency.types false in
/-- From any memory with zero counters the program runs to its end, with every input array of the pipeline and every buffer
    outside it as the region found it and every semaphore counter at zero; nothing is said of the result's array. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (fun c => (dats m 0 c).toRForget forgets0) (A_eq m) (run_main m ρ)

/-- The kernel runs, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KernelFrame

end

end
-- ==== Proof.Spec.lean ====
/-
  The product the two programs compute, at the ideal instance (a float an extended real): what one element of the
  result is, in terms of the arguments' elements. Nothing here names a program.
-/
module

public import Idealize.ShloMosaic.PureOps.Ideal
public import Idealize.ShloMosaic.Lib.Pipeline.Value
public import Idealize.ShloMosaic.Lib.ValueIdx

@[expose] public section

noncomputable section

namespace Cert.Proof.Spec

open Idealize.ShloMosaic Idealize.ShloMosaic.ValueIdx
open scoped BigOperators

/-- The number of the group of 128 that column `k` of 3584 lies in. -/
abbrev grp (k : Fin 3584) : Fin 28 := ⟨k.val / 128, by have := k.isLt; omega⟩

/-- The number of the group of 128 that column `n` of 9472 lies in. -/
abbrev grpN (n : Fin 9472) : Fin 74 := ⟨n.val / 128, by have := n.isLt; omega⟩

/-- Activation element `(r, k)` with its scale applied: the code times the scale of row `r` and of the group of `k`. -/
def xe (x : (⟨3, ![1, 4096, 3584]⟩ : Shape).Idx → EReal) (xs : (⟨3, ![1, 4096, 28]⟩ : Shape).Idx → EReal)
    (r : Fin 4096) (k : Fin 3584) : EReal := x (ix3 0 r k) * xs (ix3 0 r (grp k))

/-- Weight element `(k, n)` with its scale applied: the code times the scale of the 128 by 128 tile it lies in. -/
def we (w : (⟨2, ![3584, 9472]⟩ : Shape).Idx → EReal) (ws : (⟨2, ![28, 74]⟩ : Shape).Idx → EReal)
    (k : Fin 3584) (n : Fin 9472) : EReal := w (ix2 k n) * ws (ix2 (grp k) (grpN n))

/-- Element `(r, n)` of the result: the sum over the 3584 columns of the products of the scaled elements, plus the
    residual's element. -/
def oute (x : (⟨3, ![1, 4096, 3584]⟩ : Shape).Idx → EReal) (xs : (⟨3, ![1, 4096, 28]⟩ : Shape).Idx → EReal)
    (w : (⟨2, ![3584, 9472]⟩ : Shape).Idx → EReal) (ws : (⟨2, ![28, 74]⟩ : Shape).Idx → EReal)
    (res : (⟨3, ![1, 4096, 9472]⟩ : Shape).Idx → EReal) (r : Fin 4096) (n : Fin 9472) : EReal :=
  (∑ k : Fin 3584, xe x xs r k * we w ws k n) + res (ix3 0 r n)

/-- The word of all zero bits encodes the number zero. -/
theorem ofBits_zero : Ideal.ofBits .f32 0x00000000#32 = 0 := by simp [Ideal.ofBits, Ideal.ieee]

end Cert.Proof.Spec

end

end
-- ==== Proof.Blocks.lean ====
/-
  What one grid point of the kernel computes, as functions of the contents of its blocks: the scaled activation
  (`XB`), the scaled weight block (`WB`) and the block of the result (`OB`); and, for one store of each kind, that what
  it stores is the restriction of that function to the rectangle it stores to.
-/
module

public import proofs.«01_k».proof.Proof.Gen.KernelIdeal.Loops
public import proofs.«01_k».proof.Proof.Spec

@[expose] public section

noncomputable section

namespace Cert.Proof.Blk

open Idealize.ShloMosaic Idealize.ShloMosaic.ValueIdx
open Cert.KernelIdeal Cert.KernelIdeal.Gen Cert.Proof.Spec
open scoped BigOperators

/-- The scaled activation: the code at (r, k) times the scale at (r, k / 128). -/
def XB (x : S4096x3584.Idx → EReal) (xs : S4096x28.Idx → EReal) : S4096x3584.Idx → EReal :=
  fun y => x y * xs (ix2 (y 0) (grp (y 1)))

/-- Columns 128 to 255 of a block of 256 are in the second group of 128. -/
theorem two_lt (i : grid0.Coords) (n : Fin 256) : 2 * (i 0).val + n.val / 128 < 74 := by
  have h : (i 0).val < 37 := (i 0).isLt
  have := n.isLt; omega

/-- The scaled weight block of grid coordinates `i`: the code at (k, n) times the scale at (k / 128, 2 i₀ + n / 128). -/
def WB (i : grid0.Coords) (ws : S28x74.Idx → EReal) (w : S3584x256.Idx → EReal) : S3584x256.Idx → EReal :=
  fun y => w y * ws (ix2 (grp (y 0)) ⟨2 * (i 0).val + (y 1).val / 128, two_lt i (y 1)⟩)

/-- The block of the result: the product of the two scaled blocks plus the residual's block. -/
def OB (xb : S4096x3584.Idx → EReal) (wb : S3584x256.Idx → EReal) (res : S4096x256.Idx → EReal) : S4096x256.Idx → EReal :=
  fun y => (∑ k : Fin 3584, xb (ix2 (y 0) k) * wb (ix2 k (y 1))) + res y

/-- A column of scales repeated over 128 columns, at an index. -/
theorem bcast_col (v : S128x1.Idx → EReal) (h) (y : S128x128.Idx) :
    broadcastTo S128x128 v h y = v (ix2 (y 0) 0) :=
  broadcastTo_apply _ _ _ _ (fun a => by
    match a with
    | ⟨0, _⟩ => rfl
    | ⟨1, _⟩ => rfl)

/-- One store into the scaled activation: 128 rows by one group of 128 columns of codes, each row times its scale of that
    group, is `XB` on that rectangle. -/
theorem x_store (x : S4096x3584.Idx → EReal) (xs : S4096x28.Idx → EReal)
    (off : Fin 2 → ℕ) (inb : ∀ a, off a + S128x128.size a ≤ S4096x3584.size a)
    (offs : Fin 2 → ℕ) (inbs : ∀ a, offs a + S128x1.size a ≤ S4096x28.size a)
    (pay : S128x128.Idx → EReal)
    (hp : pay = fun y => x ((Rect.unit (s := S4096x3584) off S128x128.size inb).idx y)
      * xs ((Rect.unit (s := S4096x28) offs S128x1.size inbs).idx (ix2 (y 0) 0)))
    (h0 : off 0 = offs 0) (h1 : off 1 = 128 * offs 1) (y : S128x128.Idx) :
    pay y = XB x xs ((Rect.unit (s := S4096x3584) off S128x128.size inb).emb y) := by
  subst hp
  refine congr_arg₂ (fun p q : EReal => p * q) rfl (congrArg xs ?_)
  have hy1 : (y 1).val < 128 := (y 1).isLt
  funext a
  match a with
  | ⟨0, _⟩ =>
    refine Fin.ext ?_
    show offs 0 + 1 * (y 0).val = off 0 + 1 * (y 0).val
    rw [h0]
  | ⟨1, _⟩ =>
    refine Fin.ext ?_
    show offs 1 + 1 * 0 = (off 1 + 1 * (y 1).val) / 128
    omega

/-- One store into the scaled weight block: a 128 by 128 tile of codes times its scale is `WB` on that tile. -/
theorem w_store (i : grid0.Coords) (ws : S28x74.Idx → EReal) (w : S3584x256.Idx → EReal)
    (off : Fin 2 → ℕ) (inb : ∀ a, off a + S128x128.size a ≤ S3584x256.size a)
    (offs : Fin 2 → ℕ) (inbs : ∀ a, offs a + S1x1.size a ≤ S28x74.size a) (z : S1x1.Idx)
    (pay : S128x128.Idx → EReal)
    (hp : pay = fun y => w ((Rect.unit (s := S3584x256) off S128x128.size inb).idx y)
      * ws ((Rect.unit (s := S28x74) offs S1x1.size inbs).idx z))
    (h0 : off 0 = 128 * offs 0) (h1 : 2 * (i 0).val + off 1 / 128 = offs 1) (h2 : off 1 % 128 = 0) (y : S128x128.Idx) :
    pay y = WB i ws w ((Rect.unit (s := S3584x256) off S128x128.size inb).emb y) := by
  subst hp
  refine congr_arg₂ (fun p q : EReal => p * q) rfl (congrArg ws ?_)
  have hy0 : (y 0).val < 128 := (y 0).isLt
  have hy1 : (y 1).val < 128 := (y 1).isLt
  have hz0 : (z 0).val < 1 := (z 0).isLt
  have hz1 : (z 1).val < 1 := (z 1).isLt
  funext a
  match a with
  | ⟨0, _⟩ =>
    refine Fin.ext ?_
    show offs 0 + 1 * (z 0).val = (off 0 + 1 * (y 0).val) / 128
    omega
  | ⟨1, _⟩ =>
    refine Fin.ext ?_
    show offs 1 + 1 * (z 1).val = 2 * (i 0).val + (off 1 + 1 * (y 1).val) / 128
    omega

/-! ### The product of 512 rows of the scaled activation by the scaled weight block -/

abbrev D := dot_S512x3584_S3584x256_S512x256_1_0_0_1_n_n

/-- The product's operand indices, coordinate by coordinate. -/
theorem lhs_0 (j : S512x256.Idx) (k : D.contr.Idx) : (D.lhsIdx j k 0 : ℕ) = j 0 := by
  simp [DotDims.lhsIdx, D, dot_S512x3584_S3584x256_S512x256_1_0_0_1_n_n]; rfl
theorem lhs_1 (j : S512x256.Idx) (k : D.contr.Idx) : (D.lhsIdx j k 1 : ℕ) = k ⟨0, by decide⟩ := by
  simp [DotDims.lhsIdx, D, dot_S512x3584_S3584x256_S512x256_1_0_0_1_n_n]; rfl
theorem rhs_0 (j : S512x256.Idx) (k : D.contr.Idx) : (D.rhsIdx j k 0 : ℕ) = k ⟨0, by decide⟩ := by
  simp [DotDims.rhsIdx, D, dot_S512x3584_S3584x256_S512x256_1_0_0_1_n_n]; rfl
theorem rhs_1 (j : S512x256.Idx) (k : D.contr.Idx) : (D.rhsIdx j k 1 : ℕ) = j 1 := by
  simp [DotDims.rhsIdx, D, dot_S512x3584_S3584x256_S512x256_1_0_0_1_n_n]; rfl

/-- The contraction's indices are the 3584 columns. -/
def ce : D.contr.Idx ≃ Fin 3584 := contrEquiv1 D 3584 (by decide) (by decide)

/-- The product at an index: the accumulator plus the sum over the 3584 columns. -/
theorem matmul_at (a : FVec Ideal S512x3584 .bf16) (b : FVec Ideal S3584x256 .bf16)
    (acc : FVec Ideal S512x256 .f32) (j : S512x256.Idx) :
    matmul D none a b acc j = acc j + ∑ k : Fin 3584, (a (ix2 (j 0) k) * b (ix2 k (j 1)) : EReal) := by
  refine congrArg (acc j + ·) ?_
  refine (Equiv.sum_comp ce.symm _).symm.trans ?_
  refine Finset.sum_congr rfl fun k _ => ?_
  have hk : ((ce.symm k) ⟨0, by decide⟩ : ℕ) = k.val := contrEquiv1_symm_val D 3584 (by decide) (by decide) k
  have ha : D.lhsIdx j (ce.symm k) = ix2 (j 0) k := by
    funext d; match d with
    | ⟨0, _⟩ => exact Fin.ext (lhs_0 _ _)
    | ⟨1, _⟩ => exact Fin.ext ((lhs_1 _ _).trans hk)
  have hb : D.rhsIdx j (ce.symm k) = ix2 k (j 1) := by
    funext d; match d with
    | ⟨0, _⟩ => exact Fin.ext ((rhs_0 _ _).trans hk)
    | ⟨1, _⟩ => exact Fin.ext (rhs_1 _ _)
  exact congr_arg₂ (fun p q => (a p * b q : EReal)) ha hb

/-- What a trip of the product's loop stores: 512 rows of the product plus the residual's rows. -/
theorem pay2_at (a : Vec Ideal S512x3584 .bf16) (b : Vec Ideal S3584x256 .bf16) (r : Vec Ideal S512x256 .bf16)
    (j : S512x256.Idx) :
    k0_pay2 (F := Ideal) a b r j = ((∑ k : Fin 3584, (a (ix2 (j 0) k) * b (ix2 k (j 1)) : EReal)) + r j : EReal) := by
  unfold k0_pay2
  simp only [shapeCast_self]
  rw [truncf_apply, addf_apply, extf_apply, matmul_at, constant_apply, ofBits_zero, zero_add]

/-- One store into the block of the result: 512 rows, `OB` on that rectangle. -/
theorem o_store (xb : S4096x3584.Idx → EReal) (wb : S3584x256.Idx → EReal) (res : S4096x256.Idx → EReal)
    (off : Fin 2 → ℕ) (inb : ∀ a, off a + S512x256.size a ≤ S4096x256.size a)
    (offx : Fin 2 → ℕ) (inbx : ∀ a, offx a + S512x3584.size a ≤ S4096x3584.size a)
    (h0 : off 0 = offx 0) (h1 : off 1 = 0) (h2 : offx 1 = 0) (y : S512x256.Idx) :
    k0_pay2 (F := Ideal) (View.ld (Val := Elt Ideal) (e' := .bf16) xb (Rect.unit (s := S4096x3584) offx S512x3584.size inbx)) wb
        (View.ld (Val := Elt Ideal) (e' := .bf16) res (Rect.unit (s := S4096x256) off S512x256.size inb)) y
      = OB xb wb res ((Rect.unit (s := S4096x256) off S512x256.size inb).emb y) := by
  refine (pay2_at _ _ _ y).trans ?_
  refine congr_arg₂ (fun p q : EReal => p + q) ?_ rfl
  refine Finset.sum_congr rfl fun k _ => ?_
  refine congr_arg₂ (fun p q : EReal => p * q) (congrArg xb ?_) (congrArg wb ?_)
  · funext a
    match a with
    | ⟨0, _⟩ => exact Fin.ext (show offx 0 + 1 * (y 0).val = off 0 + 1 * (y 0).val by rw [h0])
    | ⟨1, _⟩ => exact Fin.ext (show offx 1 + 1 * k.val = k.val by omega)
  · funext a
    match a with
    | ⟨0, _⟩ => rfl
    | ⟨1, _⟩ => exact Fin.ext (show (y 1).val = off 1 + 1 * (y 1).val by omega)

end Cert.Proof.Blk

end

end
-- ==== Proof.Trips.lean ====
/-
  What one trip of each loop of the kernel stores, and all trips together: every store into the scaled activation is
  `XB` on its rectangle (first loop), every store into the block of the result is `OB` on its rectangle (second loop).
-/
module

public import proofs.«01_k».proof.Proof.Blocks

@[expose] public section

set_option maxRecDepth 16384

noncomputable section

namespace Cert.Proof.Trips

open Idealize.ShloMosaic Idealize.ShloMosaic.TcCoe Idealize.ShloMosaic.Tactic Idealize.ShloMosaic.ValueIdx
open Cert.KernelIdeal Cert.KernelIdeal.Gen Cert.Proof.Spec Cert.Proof.Blk
open scoped BigOperators

section
variable {𝒱 : Variants} {c : Dev nD} {bd : Option 𝒱.V} {i : grid0.Coords} {arg1 : Memref sig .tc .smem S28x74 .f32} {harg1 : arg1.IsWhole}
  {arg2 : Memref sig .tc .vmem S4096x3584 .fp8e4m3} {harg2 : arg2.IsWhole} {arg3 : Memref sig .tc .vmem S4096x28 .f32} {harg3 : arg3.IsWhole}
  {arg4 : Memref sig .tc .vmem S3584x256 .fp8e4m3} {harg4 : arg4.IsWhole} {arg5 : Memref sig .tc .vmem S4096x256 .bf16} {harg5 : arg5.IsWhole}
  {arg6 : Memref sig .tc .vmem S4096x256 .bf16} {harg6 : arg6.IsWhole} {arg7 : Memref sig .tc .vmem S4096x3584 .bf16} {harg7 : arg7.IsWhole}
  {arg8 : Memref sig .tc .vmem S3584x256 .bf16} {harg8 : arg8.IsWhole}

set_option maxHeartbeats 4000000 in
/-- Every store of a trip of the first loop is `XB` of the activation and its scales, on the rectangle stored to. -/
theorem x_trip (h1 : k0_cond1 i = 1#1) (X2 : BufTy.Contents (Elt Ideal) arg2.view.ty)
    (X3 : BufTy.Contents (Elt Ideal) arg3.view.ty) (k : Fin k0_t1_loop.trips) :
    ∀ p ∈ tripL_k0_t1 (F := Ideal) 𝒱 c bd i arg1 harg1 arg2 harg2 arg3 harg3 arg4 harg4 arg5 harg5 arg6 harg6 arg7 harg7 arg8 harg8
      h1 X2 X3 k, ∀ y, p.2 y = XB (arg2.view.read (Elt Ideal) X2) (arg3.view.read (Elt Ideal) X3) (p.1.emb y) := by
  unfold tripL_k0_t1 trip_k0_t1
  dsimp only
  sl_unfold_run_names
  repeat' (first
    | exact fun p hp => absurd hp List.not_mem_nil
    | refine List.forall_mem_cons.mpr ⟨?_, ?_⟩)
  all_goals
    intro y
    dsimp only at y ⊢
    refine x_store _ _ _ _ ?_ ?_ _ ?_ ?_ ?_ y
    on_goal 3 =>
      funext y
      simp only [k0_pay3, k0_pay4, k0_pay5, k0_pay6, k0_pay7, k0_pay8, k0_pay9, k0_pay10, k0_pay11, k0_pay12, k0_pay13,
        k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33,
        k0_pay34, k0_pay35, k0_pay36]
      simp only [shapeCast_self]
      rw [mulf_apply, extf_apply, truncf_apply, bcast_col]
      rfl
    all_goals simp [k0_off1_eq, k0_off2_eq, k0_off3_eq, k0_off4_eq, k0_off5_eq, k0_off6_eq, k0_off7_eq, k0_off8_eq, k0_off9_eq,
      k0_off10_eq, k0_off11_eq, k0_off12_eq, k0_off13_eq, k0_off14_eq, k0_off15_eq, k0_off16_eq, k0_off17_eq,
      k0_off18_eq, k0_off19_eq, k0_off20_eq, k0_off21_eq, k0_off22_eq, k0_off23_eq, k0_off24_eq, k0_off25_eq,
      k0_off26_eq, k0_off27_eq, k0_off28_eq, k0_off29_eq, k0_off30_eq, k0_off31_eq, k0_off32_eq, k0_off33_eq,
      k0_off34_eq, k0_off35_eq, k0_off36_eq, k0_off37_eq, k0_off38_eq, k0_off39_eq, k0_off40_eq, k0_off41_eq,
      k0_off42_eq, k0_off43_eq, k0_off44_eq, k0_off45_eq, k0_off46_eq, k0_off47_eq, k0_off48_eq, k0_off49_eq,
      k0_off50_eq, k0_off51_eq, k0_off52_eq, k0_off53_eq, k0_off54_eq, k0_off55_eq, k0_off56_eq]

set_option maxHeartbeats 4000000 in
/-- Every store of a trip of the second loop is `OB` of the scaled activation, the scaled weight block and the
    residual's block, on the rectangle stored to. -/
theorem o_trip (X5 : BufTy.Contents (Elt Ideal) arg5.view.ty) (X7 : BufTy.Contents (Elt Ideal) arg7.view.ty)
    (X8 : BufTy.Contents (Elt Ideal) arg8.view.ty) (k : Fin k0_t2_loop.trips) :
    ∀ p ∈ tripL_k0_t2 (F := Ideal) 𝒱 c bd i arg1 harg1 arg2 harg2 arg3 harg3 arg4 harg4 arg5 harg5 arg6 harg6 arg7 harg7 arg8 harg8
      X5 X7 X8 k, ∀ y, p.2 y = OB (arg7.view.read (Elt Ideal) X7) (arg8.view.read (Elt Ideal) X8)
        (arg5.view.read (Elt Ideal) X5) (p.1.emb y) := by
  unfold tripL_k0_t2 trip_k0_t2
  dsimp only
  sl_unfold_run_names
  refine List.forall_mem_cons.mpr ⟨?_, fun p hp => absurd hp List.not_mem_nil⟩
  intro y
  dsimp only at y ⊢
  simp only [View.readAt_eq_ld]
  rw [View.ld_unit_zero (S := S3584x256) (by funext a; match a with | ⟨0, _⟩ => rfl | ⟨1, _⟩ => rfl)]
  refine o_store _ _ _ _ _ _ _ ?h0 ?h1 ?h2 y
  all_goals simp [k0_off85_eq, k0_off86_eq]

/-- So is every store of the trips before `n` of the first loop, -/
theorem x_trips (h1 : k0_cond1 i = 1#1) (X2 : BufTy.Contents (Elt Ideal) arg2.view.ty)
    (X3 : BufTy.Contents (Elt Ideal) arg3.view.ty) (n : ℕ) (hn : n ≤ k0_t1_loop.trips) :
    ∀ p ∈ pb_k0_t1 (F := Ideal) 𝒱 c bd i arg1 harg1 arg2 harg2 arg3 harg3 arg4 harg4 arg5 harg5 arg6 harg6 arg7 harg7 arg8 harg8
      h1 X2 X3 n, ∀ y, p.2 y = XB (arg2.view.read (Elt Ideal) X2) (arg3.view.read (Elt Ideal) X3) (p.1.emb y) := by
  induction n with
  | zero => exact fun p hp => absurd hp List.not_mem_nil
  | succ n ih =>
    rw [pb_k0_t1_succ (k := ⟨n, hn⟩)]
    intro p hp
    rcases List.mem_append.mp hp with h | h
    · exact x_trip h1 X2 X3 ⟨n, hn⟩ p h
    · exact ih (Nat.le_of_succ_le hn) p h

/-- and of the second. -/
theorem o_trips (X5 : BufTy.Contents (Elt Ideal) arg5.view.ty) (X7 : BufTy.Contents (Elt Ideal) arg7.view.ty)
    (X8 : BufTy.Contents (Elt Ideal) arg8.view.ty) (n : ℕ) (hn : n ≤ k0_t2_loop.trips) :
    ∀ p ∈ pb_k0_t2 (F := Ideal) 𝒱 c bd i arg1 harg1 arg2 harg2 arg3 harg3 arg4 harg4 arg5 harg5 arg6 harg6 arg7 harg7 arg8 harg8
      X5 X7 X8 n, ∀ y, p.2 y = OB (arg7.view.read (Elt Ideal) X7) (arg8.view.read (Elt Ideal) X8)
        (arg5.view.read (Elt Ideal) X5) (p.1.emb y) := by
  induction n with
  | zero => exact fun p hp => absurd hp List.not_mem_nil
  | succ n ih =>
    rw [pb_k0_t2_succ (k := ⟨n, hn⟩)]
    intro p hp
    rcases List.mem_append.mp hp with h | h
    · exact o_trip X5 X7 X8 ⟨n, hn⟩ p h
    · exact ih (Nat.le_of_succ_le hn) p h

end

end Cert.Proof.Trips

end

end
-- ==== Proof.Reads.lean ====
/-
  What a buffer holds after a list of stores that cover it and agree with one array, and so what the scaled
  activation and the block of the result hold after the kernel's two loops.
-/
module

public import proofs.«01_k».proof.Proof.Gen.KernelIdeal.Frame.Runs
public import proofs.«01_k».proof.Proof.Trips

@[expose] public section

set_option maxRecDepth 16384

noncomputable section

namespace Cert.Proof.Reads

open Idealize.ShloMosaic Idealize.ShloMosaic.TcCoe Idealize.ShloMosaic.Tactic Idealize.ShloMosaic.ValueIdx
open Cert.KernelIdeal Cert.KernelIdeal.Gen Cert.Proof.Spec Cert.Proof.Blk Cert.Proof.Trips

/-- A buffer written by stores that cover it, each of which stores `G` on its rectangle, holds `G` whatever it held. -/
theorem read_of_pieces {κ : Kind} {sp : Space} {s : Shape} {e : EltTy} (v : View sig κ sp s e)
    (f : v.ty.Contents (Elt Ideal)) (G : s.Idx → Elt Ideal e) (L : List (View.Piece (Elt Ideal) s e))
    (hL : ∀ p ∈ L, ∀ x, p.2 x = G (p.1.emb x)) (hc : ∀ y, ∃ p ∈ L, y ∈ p.1.set) :
    v.read (Elt Ideal) (v.writes (Elt Ideal) f L) = G := by
  rw [View.read_writes_eq_canon v f L hc]
  funext y
  exact View.canon_apply_of_pieces G L hL y (hc y)

/-- An entry of an offset that has a closed form is that form's entry. -/
theorem closed_at {n : ℕ} (off : Fin n → ℕ) [h : ClosedOff off] (a : Fin n) (v : ℕ) (hv : v = h.form a) : v = off a :=
  hv.trans (congrFun h.eq a).symm

section
variable {𝒱 : Variants} {c : Dev nD} {bd : Option 𝒱.V} {i : grid0.Coords} {arg1 : Memref sig .tc .smem S28x74 .f32} {harg1 : arg1.IsWhole}
  {arg2 : Memref sig .tc .vmem S4096x3584 .fp8e4m3} {harg2 : arg2.IsWhole} {arg3 : Memref sig .tc .vmem S4096x28 .f32} {harg3 : arg3.IsWhole}
  {arg4 : Memref sig .tc .vmem S3584x256 .fp8e4m3} {harg4 : arg4.IsWhole} {arg5 : Memref sig .tc .vmem S4096x256 .bf16} {harg5 : arg5.IsWhole}
  {arg6 : Memref sig .tc .vmem S4096x256 .bf16} {harg6 : arg6.IsWhole} {arg7 : Memref sig .tc .vmem S4096x3584 .bf16} {harg7 : arg7.IsWhole}
  {arg8 : Memref sig .tc .vmem S3584x256 .bf16} {harg8 : arg8.IsWhole}

/-- After the first loop the scratch holds the scaled activation. -/
theorem x_read (h1 : k0_cond1 i = 1#1) (f : BufTy.Contents (Elt Ideal) arg7.view.ty) (X2 : BufTy.Contents (Elt Ideal) arg2.view.ty)
    (X3 : BufTy.Contents (Elt Ideal) arg3.view.ty) :
    arg7.view.read (Elt Ideal) (arg7.view.writes (Elt Ideal) f
        (pb_k0_t1 (F := Ideal) 𝒱 c bd i arg1 harg1 arg2 harg2 arg3 harg3 arg4 harg4 arg5 harg5 arg6 harg6 arg7 harg7 arg8 harg8
          h1 X2 X3 (Scf.trips k0_t1_loop.lb k0_t1_loop.ub k0_t1_loop.st)))
      = XB (arg2.view.read (Elt Ideal) X2) (arg3.view.read (Elt Ideal) X3) :=
  read_of_pieces _ f _ _ (x_trips h1 X2 X3 _ le_rfl)
    (View.cover_of_tiledL _ S128x128.size (by sl_kernel_rfl))

/-- After the second loop the block of the result holds the product of what the two scratches hold plus the residual. -/
theorem o_read (f : BufTy.Contents (Elt Ideal) arg6.view.ty) (X5 : BufTy.Contents (Elt Ideal) arg5.view.ty)
    (X7 : BufTy.Contents (Elt Ideal) arg7.view.ty) (X8 : BufTy.Contents (Elt Ideal) arg8.view.ty) :
    arg6.view.read (Elt Ideal) (arg6.view.writes (Elt Ideal) f
        (pb_k0_t2 (F := Ideal) 𝒱 c bd i arg1 harg1 arg2 harg2 arg3 harg3 arg4 harg4 arg5 harg5 arg6 harg6 arg7 harg7 arg8 harg8
          X5 X7 X8 (Scf.trips k0_t2_loop.lb k0_t2_loop.ub k0_t2_loop.st)))
      = OB (arg7.view.read (Elt Ideal) X7) (arg8.view.read (Elt Ideal) X8) (arg5.view.read (Elt Ideal) X5) :=
  read_of_pieces _ f _ _ (o_trips X5 X7 X8 _ le_rfl)
    (View.cover_of_tiledL _ S512x256.size (by sl_kernel_rfl))

end

end Cert.Proof.Reads

end

end
-- ==== Proof.RunA.lean ====
/-
  The kernel's body at the first point of the grid, as a triple with the values it leaves.
-/
module

public import proofs.«01_k».proof.Proof.Gen.KernelIdeal.Frame.Runs
public import proofs.«01_k».proof.Proof.Reads

@[expose] public section

set_option maxRecDepth 16384

noncomputable section

namespace Cert.Proof.Run
open Cert.KernelIdeal Cert.KernelIdeal.Gen Cert.Proof.Blk Cert.Proof.Reads Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at the grid's first point, where the activation is scaled: on staging buffers holding the scales of the
    weight, the activation, its scales, a weight block and a residual block, it ends with those as they were, the block
    of the result at `OB` of the scaled activation, the scaled weight block and the residual block, and the carried scratch at
    the scaled activation. -/
theorem run_A (c : Dev nD) (i : grid0.Coords) (arg1 : Memref sig .tc .smem S28x74 .f32) (harg1 : arg1.IsWhole) (arg2 : Memref sig .tc .vmem S4096x3584 .fp8e4m3) (harg2 : arg2.IsWhole) (arg3 : Memref sig .tc .vmem S4096x28 .f32) (harg3 : arg3.IsWhole) (arg4 : Memref sig .tc .vmem S3584x256 .fp8e4m3) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x3584 .bf16) (harg7 : arg7.IsWhole) (arg8 : Memref sig .tc .vmem S3584x256 .bf16) (harg8 : arg8.IsWhole) (hc0 : cond0_0 i)
    (x0 : Vec Ideal S28x74 .f32) (x1 : Vec Ideal S4096x3584 .fp8e4m3) (x2 : Vec Ideal S4096x28 .f32) (x3 : Vec Ideal S3584x256 .fp8e4m3) (x4 : Vec Ideal S4096x256 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (OB (XB x1 x2) (WB i x0 x3) x4) ∗ owns (c : Thread nD τ) arg7 fullShare (XB x1 x2) ∗ (∃ d, owns (c : Thread nD τ) arg8 fullShare d)) -∗ K ⟨⟩))
          ⊢ wp frame (wpE (defs₀ (F := Ideal)) Variants.none c none) E (cc0_fp8_down_proj i arg1 harg1 arg2 harg2 arg3 harg3 arg4 harg4 arg5 harg5 arg6 harg6 arg7 harg7 arg8 harg8) K := by
    simp only [cc0_fp8_down_proj_eq_skeleton]; unfold cc0_fp8_down_proj_skel
    simp only [k0_part28_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    have hW : ∀ p ∈ run_A.sl.HS1_56 c i arg1 harg1 arg4 harg4 x0 x3, ∀ y, p.2 y = WB i (arg1.view.read (Elt Ideal) (harg1.unread x0)) (arg4.view.read (Elt Ideal) (harg4.unread x3)) (p.1.emb y) := by
      sl_unfold_run_names
      repeat' (first
        | exact fun p hp => absurd hp List.not_mem_nil
        | refine List.forall_mem_cons.mpr ⟨?_, ?_⟩)
      all_goals
        intro y
        dsimp only at y ⊢
        refine w_store i _ _ _ _ ?_ ?_ ?_ _ ?_ ?_ ?_ ?_ y
        on_goal 4 =>
          funext y
          simp only [k0_pay1, k0_pay37, k0_pay38, k0_pay39, k0_pay40, k0_pay41, k0_pay42, k0_pay43, k0_pay44, k0_pay45, k0_pay46,
            k0_pay47, k0_pay48, k0_pay49, k0_pay50, k0_pay51, k0_pay52, k0_pay53, k0_pay54, k0_pay55, k0_pay56, k0_pay57,
            k0_pay58, k0_pay59, k0_pay60, k0_pay61, k0_pay62, k0_pay63, k0_pay64, k0_pay65, k0_pay66, k0_pay67, k0_pay68,
            k0_pay69, k0_pay70, k0_pay71, k0_pay72, k0_pay73, k0_pay74, k0_pay75, k0_pay76, k0_pay77, k0_pay78, k0_pay79,
            k0_pay80, k0_pay81, k0_pay82, k0_pay83, k0_pay84, k0_pay85, k0_pay86, k0_pay87, k0_pay88, k0_pay89, k0_pay90,
            k0_pay91, k0_pay92, k0_pay93, k0_pay94, k0_pay95, k0_pay96, k0_pay97, k0_pay98, k0_pay99, k0_pay100,
            k0_pay101, k0_pay102, k0_pay103, k0_pay104, k0_pay105, k0_pay106, k0_pay107, k0_pay108, k0_pay109, k0_pay110,
            k0_pay111, k0_pay112, k0_pay113, k0_pay114, k0_pay115, k0_pay116, k0_pay117, k0_pay118, k0_pay119, k0_pay120,
            k0_pay121, k0_pay122, k0_pay123, k0_pay124, k0_pay125, k0_pay126, k0_pay127, k0_pay128]
          simp only [shapeCast_self]
          rw [mulf_apply, extf_apply]
          rfl
        all_goals first
          | rfl
          | exact closed_at _ 1 _ rfl
    have hW' := read_of_pieces arg8.view arg8.view.junk _ _ hW (View.cover_of_tiledL _ S128x128.size (by sl_kernel_rfl))
    rw [hf0, hf3] at hW'
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact (o_read _ _ _ _).trans (by rw [x_read, hf1, hf2, hW', hf4])
    isplitl [HS0]
    · iexists _; isplitr; swap; · iexact HS0
      ipureintro; exact (x_read _ _ _ _).trans (by rw [hf1, hf2])
    iexists _, _; isplitr; swap; · iexact HS1
    ipureintro; rfl

end Cert.Proof.Run

end
-- ==== Proof.RunB.lean ====
/-
  The kernel's body at every point of the grid but the first, as a triple with the values it leaves.
-/
module

public import proofs.«01_k».proof.Proof.Gen.KernelIdeal.Frame.Runs
public import proofs.«01_k».proof.Proof.RunA

@[expose] public section

set_option maxRecDepth 16384

noncomputable section

namespace Cert.Proof.Run
open Cert.KernelIdeal Cert.KernelIdeal.Gen Cert.Proof.Blk Cert.Proof.Reads Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at any later point, where the carried scratch holds `xs0`: it ends with the inputs as they were, the block of
    the result at `OB` of `xs0`, the scaled weight block and the residual block, and the carried scratch still at `xs0`. -/
theorem run_B (c : Dev nD) (i : grid0.Coords) (arg1 : Memref sig .tc .smem S28x74 .f32) (harg1 : arg1.IsWhole) (arg2 : Memref sig .tc .vmem S4096x3584 .fp8e4m3) (harg2 : arg2.IsWhole) (arg3 : Memref sig .tc .vmem S4096x28 .f32) (harg3 : arg3.IsWhole) (arg4 : Memref sig .tc .vmem S3584x256 .fp8e4m3) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x3584 .bf16) (harg7 : arg7.IsWhole) (arg8 : Memref sig .tc .vmem S3584x256 .bf16) (harg8 : arg8.IsWhole) (hc0 : ¬cond0_0 i)
    (x0 : Vec Ideal S28x74 .f32) (x1 : Vec Ideal S4096x3584 .fp8e4m3) (x2 : Vec Ideal S4096x28 .f32) (x3 : Vec Ideal S3584x256 .fp8e4m3) (x4 : Vec Ideal S4096x256 .bf16) (xs0 : Vec Ideal S4096x3584 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (OB xs0 (WB i x0 x3) x4) ∗ owns (c : Thread nD τ) arg7 fullShare xs0 ∗ (∃ d, owns (c : Thread nD τ) arg8 fullShare d)) -∗ K ⟨⟩))
          ⊢ wp frame (wpE (defs₀ (F := Ideal)) Variants.none c none) E (cc0_fp8_down_proj i arg1 harg1 arg2 harg2 arg3 harg3 arg4 harg4 arg5 harg5 arg6 harg6 arg7 harg7 arg8 harg8) K := by
    simp only [cc0_fp8_down_proj_eq_skeleton]; unfold cc0_fp8_down_proj_skel
    simp only [k0_part28_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    have hW : ∀ p ∈ run_B.sl.HS1_56 c i arg1 harg1 arg4 harg4 x0 x3, ∀ y, p.2 y = WB i (arg1.view.read (Elt Ideal) (harg1.unread x0)) (arg4.view.read (Elt Ideal) (harg4.unread x3)) (p.1.emb y) := by
      sl_unfold_run_names
      repeat' (first
        | exact fun p hp => absurd hp List.not_mem_nil
        | refine List.forall_mem_cons.mpr ⟨?_, ?_⟩)
      all_goals
        intro y
        dsimp only at y ⊢
        refine w_store i _ _ _ _ ?_ ?_ ?_ _ ?_ ?_ ?_ ?_ y
        on_goal 4 =>
          funext y
          simp only [k0_pay1, k0_pay37, k0_pay38, k0_pay39, k0_pay40, k0_pay41, k0_pay42, k0_pay43, k0_pay44, k0_pay45, k0_pay46,
            k0_pay47, k0_pay48, k0_pay49, k0_pay50, k0_pay51, k0_pay52, k0_pay53, k0_pay54, k0_pay55, k0_pay56, k0_pay57,
            k0_pay58, k0_pay59, k0_pay60, k0_pay61, k0_pay62, k0_pay63, k0_pay64, k0_pay65, k0_pay66, k0_pay67, k0_pay68,
            k0_pay69, k0_pay70, k0_pay71, k0_pay72, k0_pay73, k0_pay74, k0_pay75, k0_pay76, k0_pay77, k0_pay78, k0_pay79,
            k0_pay80, k0_pay81, k0_pay82, k0_pay83, k0_pay84, k0_pay85, k0_pay86, k0_pay87, k0_pay88, k0_pay89, k0_pay90,
            k0_pay91, k0_pay92, k0_pay93, k0_pay94, k0_pay95, k0_pay96, k0_pay97, k0_pay98, k0_pay99, k0_pay100,
            k0_pay101, k0_pay102, k0_pay103, k0_pay104, k0_pay105, k0_pay106, k0_pay107, k0_pay108, k0_pay109, k0_pay110,
            k0_pay111, k0_pay112, k0_pay113, k0_pay114, k0_pay115, k0_pay116, k0_pay117, k0_pay118, k0_pay119, k0_pay120,
            k0_pay121, k0_pay122, k0_pay123, k0_pay124, k0_pay125, k0_pay126, k0_pay127, k0_pay128]
          simp only [shapeCast_self]
          rw [mulf_apply, extf_apply]
          rfl
        all_goals first
          | rfl
          | exact closed_at _ 1 _ rfl
    have hW' := read_of_pieces arg8.view arg8.view.junk _ _ hW (View.cover_of_tiledL _ S128x128.size (by sl_kernel_rfl))
    rw [hf0, hf3] at hW'
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact (o_read _ _ _ _).trans (by rw [hfs0, hW', hf4])
    isplitl [HS0]
    · iexists _; isplitr; · ipureintro; exact harg7.read_unread _
      iexact HS0
    iexists _, _; isplitr; swap; · iexact HS1
    ipureintro; rfl

end Cert.Proof.Run

end
-- ==== Proof.Frame.lean ====
/-
  The kernel run over its whole grid at the ideal values: what each point's body leaves, the region's proof data, the
  body's obligation at every point, and the run of the program.
-/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.Proof.Frame

open Cert.KernelIdeal Cert.KernelIdeal.Gen Cert.Proof.Blk Cert.Proof.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## What the buffers hold after each point -/

/-- The scaled activation: the activation times its scales, as the windows of point `t` show them. -/
def xAt (c : Dev nD) (t : Fin cfg0.N) : Vec Ideal S4096x3584 .bf16 := XB (iblk m c 1 t) (iblk m c 2 t)

/-- The two windows of the activation are the whole arrays at every point, so this does not depend on the point. -/
theorem xAt_eq (c : Dev nD) (t t' : Fin cfg0.N) : xAt m c t = xAt m c t' := rfl

/-- The block of the result that point `t` computes. -/
def oAt (c : Dev nD) (t : Fin cfg0.N) : Vec Ideal S4096x256 .bf16 :=
  OB (xAt m c t) (WB (grid0.coords t) (iblk m c 0 t) (iblk m c 3 t)) (iblk m c 4 t)

/-- After point `n`: the block of the result in its staging buffer, and the scaled activation in the carried scratch. -/
def outsAt0 (c : Dev nD) (n : ℕ) (hn : n < cfg0.N) : Vec Ideal S4096x256 .bf16 × Vec Ideal S4096x3584 .bf16 :=
  (oAt m c ⟨n, hn⟩, xAt m c ⟨n, hn⟩)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 37 := lt_of_lt_of_eq t.isLt (show cfg0.N = 37 from N_0)
  by_cases h0 : t.val % 37 = 0
  · by_cases hz : t.val = 0
    · rw [PhiS_castSucc m c t, PhiS_zero m c _ _ hz, PhiA0_eq]
      unfold outsAt0 oAt; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ _ _ ((hcond0_0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; have hN : t.val < 37 := lt_of_lt_of_eq t.isLt (show cfg0.N = 37 from N_0); omega
  · by_cases hz : t.val = 0
    · exfalso; have hN : t.val < 37 := lt_of_lt_of_eq t.isLt (show cfg0.N = 37 from N_0); omega
    · rw [PhiS_castSucc m c t, PhiS_pos m c _ _ hz]
      unfold outsAt0 oAt; dsimp only
      rw [xAt_eq m c ⟨t.val - 1, _⟩ t]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ _ _ (fun h => h0 ((hcond0_0 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 37 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Frame

end
-- ==== Proof.Value.lean ====
/-
  What the kernel's result array holds after the run at the ideal values: element `(r, n)` is the specification's
  `oute` of the arguments as launched.
-/
module

public import proofs.«01_k».proof.Proof.Frame
public import Idealize.ShloMosaic.Lib.Pipeline.Value

@[expose] public section

noncomputable section

namespace Cert.Proof.Value

open Cert.KernelIdeal Cert.KernelIdeal.Gen Cert.Proof.Spec Cert.Proof.Blk Cert.Proof.Frame
open Idealize.ShloMosaic Idealize.ShloMosaic.TcCoe Idealize.ShloMosaic.Tactic Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The arrays the region finds -/

/-- Dropping a leading unit axis, at an index. -/
theorem drop_unit {a b : ℕ} (v : (⟨3, ![1, a, b]⟩ : Shape).Idx → EReal) (h : (⟨3, ![1, a, b]⟩ : Shape).ShapeCasts ⟨2, ![a, b]⟩)
    (r : Fin a) (k : Fin b) : shapeCast ⟨2, ![a, b]⟩ v h (ix2 r k) = v (ix3 0 r k) :=
  shapeCast_apply _ _ _ _ (by
    rw [Shape.rowMajor_val_two, Shape.rowMajor_val_three]
    show (0 * a + r.val) * b + k.val = r.val * b + k.val
    rw [Nat.zero_mul, Nat.zero_add])

/-- The activation's array is the argument with its leading unit axis dropped. -/
theorem V_x (c : Dev nD) (r : Fin 4096) (k : Fin 3584) :
    (V m c main_v0 : S4096x3584.Idx → EReal) (ix2 r k) = (m ((c : Thread nD τ).loc main_arg0) : S1x4096x3584.Idx → EReal) (ix3 0 r k) := by
  have h : (V m c main_v0 : S4096x3584.Idx → EReal)
      = shapeCast S4096x3584 (m ((c : Thread nD τ).loc main_arg0) : S1x4096x3584.Idx → EReal) shapeCasts_S1x4096x3584_S4096x3584 := by
    unfold_abbrev_sides
    after_results
    rfl
  rw [h]
  exact drop_unit _ _ _ _

/-- The activation scales' array is the argument with its leading unit axis dropped. -/
theorem V_xs (c : Dev nD) (r : Fin 4096) (g : Fin 28) :
    (V m c main_v1 : S4096x28.Idx → EReal) (ix2 r g) = (m ((c : Thread nD τ).loc main_arg1) : S1x4096x28.Idx → EReal) (ix3 0 r g) := by
  have h : (V m c main_v1 : S4096x28.Idx → EReal)
      = shapeCast S4096x28 (m ((c : Thread nD τ).loc main_arg1) : S1x4096x28.Idx → EReal) shapeCasts_S1x4096x28_S4096x28 := by
    unfold_abbrev_sides
    after_results
    rfl
  rw [h]
  exact drop_unit _ _ _ _

/-- The residual's array is the argument with its leading unit axis dropped. -/
theorem V_res (c : Dev nD) (r : Fin 4096) (n : Fin 9472) :
    (V m c main_v2 : S4096x9472.Idx → EReal) (ix2 r n) = (m ((c : Thread nD τ).loc main_arg4) : S1x4096x9472.Idx → EReal) (ix3 0 r n) := by
  have h : (V m c main_v2 : S4096x9472.Idx → EReal)
      = shapeCast S4096x9472 (m ((c : Thread nD τ).loc main_arg4) : S1x4096x9472.Idx → EReal) shapeCasts_S1x4096x9472_S4096x9472 := by
    unfold_abbrev_sides
    after_results
    rfl
  rw [h]
  exact drop_unit _ _ _ _

/-! ## The blocks the windows show -/

/-- Block indices of the windows at point `t`: zero on every axis of the whole-array windows; block column `t` for the
    weight's, the residual's and the result's. And the point's one coordinate is its number. -/
theorem idx_in : ∀ t : Fin cfg0.N,
    (∀ a : Fin 2, win0_0.index t a = 0) ∧ (∀ a : Fin 2, win0_1.index t a = 0) ∧ (∀ a : Fin 2, win0_2.index t a = 0)
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ (grid0.coords t 0).val = t.val :=
  (by decide +kernel : ∀ t : Fin grid0.N, _)

/-- Column `n` of block `t` is column `256 t + n` of the array. -/
abbrev col (t : Fin cfg0.N) (n : Fin 256) : Fin 9472 :=
  ⟨256 * t.val + n.val, by have h : t.val < 37 := lt_of_lt_of_eq t.isLt N_0; have := n.isLt; omega⟩

/-- The weight scales as point `t` sees them: the whole argument. -/
theorem blk_ws (c : Dev nD) (t : Fin cfg0.N) (g : Fin 28) (q : Fin 74) :
    (iblk m c 0 t : S28x74.Idx → EReal) (ix2 g q) = (m ((c : Thread nD τ).loc main_arg3) : S28x74.Idx → EReal) (ix2 g q) := by
  obtain ⟨e, -⟩ := idx_in t
  show (V m c main_arg3 : S28x74.Idx → EReal) (((cfg0.win 0).blk t).view.emb (ix2 g q)) = _
  rw [V_main_arg3]
  congr 1
  funext a; apply Fin.ext
  match a with
  | ⟨0, _⟩ => show win0_0.index t (0 : Fin 2) * 28 + 1 * g.val = g.val; rw [e]; omega
  | ⟨1, _⟩ => show win0_0.index t (1 : Fin 2) * 74 + 1 * q.val = q.val; rw [e]; omega

/-- The activation as point `t` sees it: the whole argument. -/
theorem blk_x (c : Dev nD) (t : Fin cfg0.N) (r : Fin 4096) (k : Fin 3584) :
    (iblk m c 1 t : S4096x3584.Idx → EReal) (ix2 r k) = (m ((c : Thread nD τ).loc main_arg0) : S1x4096x3584.Idx → EReal) (ix3 0 r k) := by
  obtain ⟨-, e, -⟩ := idx_in t
  refine Eq.trans ?_ (V_x m c r k)
  show (V m c main_v0 : S4096x3584.Idx → EReal) (((cfg0.win 1).blk t).view.emb (ix2 r k)) = _
  congr 1
  funext a; apply Fin.ext
  match a with
  | ⟨0, _⟩ => show win0_1.index t (0 : Fin 2) * 4096 + 1 * r.val = r.val; rw [e]; omega
  | ⟨1, _⟩ => show win0_1.index t (1 : Fin 2) * 3584 + 1 * k.val = k.val; rw [e]; omega

/-- The activation scales as point `t` sees them: the whole argument. -/
theorem blk_xs (c : Dev nD) (t : Fin cfg0.N) (r : Fin 4096) (g : Fin 28) :
    (iblk m c 2 t : S4096x28.Idx → EReal) (ix2 r g) = (m ((c : Thread nD τ).loc main_arg1) : S1x4096x28.Idx → EReal) (ix3 0 r g) := by
  obtain ⟨-, -, e, -⟩ := idx_in t
  refine Eq.trans ?_ (V_xs m c r g)
  show (V m c main_v1 : S4096x28.Idx → EReal) (((cfg0.win 2).blk t).view.emb (ix2 r g)) = _
  congr 1
  funext a; apply Fin.ext
  match a with
  | ⟨0, _⟩ => show win0_2.index t (0 : Fin 2) * 4096 + 1 * r.val = r.val; rw [e]; omega
  | ⟨1, _⟩ => show win0_2.index t (1 : Fin 2) * 28 + 1 * g.val = g.val; rw [e]; omega

/-- The weight's block of point `t`: all rows of the 256 columns from `256 t`. -/
theorem blk_w (c : Dev nD) (t : Fin cfg0.N) (k : Fin 3584) (n : Fin 256) :
    (iblk m c 3 t : S3584x256.Idx → EReal) (ix2 k n) = (m ((c : Thread nD τ).loc main_arg2) : S3584x9472.Idx → EReal) (ix2 k (col t n)) := by
  obtain ⟨-, -, -, e0, e1, -⟩ := idx_in t
  show (V m c main_arg2 : S3584x9472.Idx → EReal) (((cfg0.win 3).blk t).view.emb (ix2 k n)) = _
  rw [V_main_arg2]
  congr 1
  funext a; apply Fin.ext
  match a with
  | ⟨0, _⟩ => show win0_3.index t (0 : Fin 2) * 3584 + 1 * k.val = k.val; rw [e0]; omega
  | ⟨1, _⟩ => show win0_3.index t (1 : Fin 2) * 256 + 1 * n.val = 256 * t.val + n.val; rw [e1]; omega

/-- The residual's block of point `t`: all rows of the 256 columns from `256 t`. -/
theorem blk_res (c : Dev nD) (t : Fin cfg0.N) (r : Fin 4096) (n : Fin 256) :
    (iblk m c 4 t : S4096x256.Idx → EReal) (ix2 r n) = (m ((c : Thread nD τ).loc main_arg4) : S1x4096x9472.Idx → EReal) (ix3 0 r (col t n)) := by
  obtain ⟨-, -, -, -, -, e0, e1, -⟩ := idx_in t
  refine Eq.trans ?_ (V_res m c r (col t n))
  show (V m c main_v2 : S4096x9472.Idx → EReal) (((cfg0.win 4).blk t).view.emb (ix2 r n)) = _
  congr 1
  funext a; apply Fin.ext
  match a with
  | ⟨0, _⟩ => show win0_4.index t (0 : Fin 2) * 4096 + 1 * r.val = r.val; rw [e0]; omega
  | ⟨1, _⟩ => show win0_4.index t (1 : Fin 2) * 256 + 1 * n.val = 256 * t.val + n.val; rw [e1]; omega

/-! ## The result array -/

/-- What the result array ends holding: at `(r, n)` the specification's element of the arguments as launched. -/
def G5 (c : Dev nD) : Buf (Elt Ideal) ((c : Thread nD τ).loc main_v3) := fun i : S4096x9472.Idx =>
  oute (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- One element of the scaled activation a point works with is the specification's. -/
theorem xAt_at (c : Dev nD) (t : Fin cfg0.N) (r : Fin 4096) (k : Fin 3584) :
    (xAt m c t : S4096x3584.Idx → EReal) (ix2 r k)
      = xe (m ((c : Thread nD τ).loc main_arg0)) (m ((c : Thread nD τ).loc main_arg1)) r k := by
  exact congr_arg₂ (fun p q : EReal => p * q) (blk_x m c t r k) (blk_xs m c t r (grp k))

/-- One element of the scaled weight block of point `t` is the specification's at the block's column. -/
theorem wAt_at (c : Dev nD) (t : Fin cfg0.N) (k : Fin 3584) (n : Fin 256) :
    (WB (grid0.coords t) (iblk m c 0 t) (iblk m c 3 t) : S3584x256.Idx → EReal) (ix2 k n)
      = we (m ((c : Thread nD τ).loc main_arg2)) (m ((c : Thread nD τ).loc main_arg3)) k (col t n) := by
  have e : (grid0.coords t 0).val = t.val := (idx_in t).2.2.2.2.2.2.2.2.2
  have hq : (⟨2 * (grid0.coords t 0).val + n.val / 128, two_lt (grid0.coords t) n⟩ : Fin 74) = grpN (col t n) :=
    Fin.ext (by show 2 * (grid0.coords t 0).val + n.val / 128 = (256 * t.val + n.val) / 128; omega)
  refine congr_arg₂ (fun p q : EReal => p * q) (blk_w m c t k n) ((blk_ws m c t (grp k) _).trans ?_)
  exact congrArg (fun q => (m ((c : Thread nD τ).loc main_arg3) : S28x74.Idx → EReal) (ix2 (grp k) q)) hq

/-- One element of the block that point `t` computes is the specification's at the block's column. -/
theorem oAt_at (c : Dev nD) (t : Fin cfg0.N) (r : Fin 4096) (n : Fin 256) :
    (oAt m c t : S4096x256.Idx → EReal) (ix2 r n)
      = oute (m ((c : Thread nD τ).loc main_arg0)) (m ((c : Thread nD τ).loc main_arg1)) (m ((c : Thread nD τ).loc main_arg2))
        (m ((c : Thread nD τ).loc main_arg3)) (m ((c : Thread nD τ).loc main_arg4)) r (col t n) := by
  refine congr_arg₂ (fun p q : EReal => p + q) (Finset.sum_congr rfl fun k _ => ?_) (blk_res m c t r n)
  exact congr_arg₂ (fun p q : EReal => p * q) (xAt_at m c t r k) (wAt_at m c t k n)

/-- The index map over the grid: the result window's block indices stay in the box, and the block number
    read off them is the point's (`t`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 36
    ∧ 37 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 1) (q1 : Fin 37) : Fin grid0.N :=
  ⟨37 * q0.val + 1 * q1.val, lt_of_lt_of_eq (by omega) N_0.symm⟩
theorem idx_onto5 : ∀ (q0 : Fin 1) (q1 : Fin 37), ∃ t : Fin cfg0.N, (cfg0.win 5).flush t = true ∧ win0_5.index t = ![q0.val + 0, q1.val + 0] :=
  fun q0 q1 => ⟨onto5Pt q0 q1, (by decide +kernel : ∀ (q0 : Fin 1) (q1 : Fin 37), win0_5.flush (onto5Pt q0 q1) = true ∧ win0_5.index (onto5Pt q0 q1) = ![q0.val + 0, q1.val + 0]) q0 q1⟩

/-- What point `t` writes back is block `t` of `G5`. -/
theorem flushed5_eq (c : Dev nD) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  obtain ⟨-, -, -, -, -, -, -, e0, e1, -⟩ := idx_in t
  funext y
  have hx : (cfg0.win 5).xinj (grid0.coords t) y = (ix2 (y 0) (y 1) : S4096x256.Idx) := by
    funext a
    match a with
    | ⟨0, _⟩ => rfl
    | ⟨1, _⟩ => rfl
  have h0 : (((cfg0.win 5).blk t).view.emb y : S4096x9472.Idx) 0 = y 0 :=
    Fin.ext (by show win0_5.index t (0 : Fin 2) * 4096 + 1 * (y 0).val = (y 0).val; rw [e0]; omega)
  have h1 : (((cfg0.win 5).blk t).view.emb y : S4096x9472.Idx) 1 = col t (y 1) :=
    Fin.ext (by show win0_5.index t (1 : Fin 2) * 256 + 1 * (y 1).val = 256 * t.val + (y 1).val; rw [e1]; omega)
  show (oAt m c t : S4096x256.Idx → EReal) ((cfg0.win 5).xinj (grid0.coords t) y) = G5 m c (((cfg0.win 5).blk t).view.emb y)
  rw [hx]
  refine (oAt_at m c t (y 0) (y 1)).trans ?_
  unfold G5
  exact congr_arg₂ (oute _ _ _ _ _) h0.symm h1.symm

/-- An index of the array is in point `t`'s block iff each coordinate is in the block's range on its axis. -/
theorem mem_blk5 (t : Fin cfg0.N) (i : S4096x9472.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v3).slice (win0_5.rect t)).set ↔ _
  rw [View.set_slice_whole, Rect.mem_set_unit]
  exact Iff.rfl

/-- The covered indices: an index is in some flushing point's block iff inside the box those blocks fill. -/
theorem covered_iff5 (i : S4096x9472.Idx) :
    (∃ t : Fin cfg0.N, (cfg0.win 5).flush t = true ∧ i ∈ ((cfg0.win 5).blk t).view.set) ↔ 0 ≤ (i 0).val ∧ (i 0).val < 4096 ∧ 0 ≤ (i 1).val ∧ (i 1).val < 9472 := by
  constructor
  · rintro ⟨t, -, hi⟩
    rw [mem_blk5] at hi
    have b0 : win0_5.index t (0 : Fin 2) * 4096 ≤ (i 0).val ∧ (i 0).val < win0_5.index t (0 : Fin 2) * 4096 + 4096 := hi 0
    have b1 : win0_5.index t (1 : Fin 2) * 256 ≤ (i 1).val ∧ (i 1).val < win0_5.index t (1 : Fin 2) * 256 + 256 := hi 1
    obtain ⟨e0, e1, e2⟩ := idx_facts5 t
    omega
  · intro h
    have hi0 : (i 0).val < 4096 := (i 0).isLt
    have hi1 : (i 1).val < 9472 := (i 1).isLt
    obtain ⟨t, hft, ht⟩ := idx_onto5 ⟨(i 0).val / 4096 - 0, by omega⟩ ⟨(i 1).val / 256 - 0, by omega⟩
    have q0 : win0_5.index t (0 : Fin 2) = (i 0).val / 4096 - 0 + 0 := congrFun ht 0
    have q1 : win0_5.index t (1 : Fin 2) = (i 1).val / 256 - 0 + 0 := congrFun ht 1
    refine ⟨t, hft, ?_⟩
    rw [mem_blk5]
    intro a
    match a with
    | ⟨0, _⟩ => show win0_5.index t (0 : Fin 2) * 4096 ≤ (i 0).val ∧ (i 0).val < win0_5.index t (0 : Fin 2) * 4096 + 4096; omega
    | ⟨1, _⟩ => show win0_5.index t (1 : Fin 2) * 256 ≤ (i 1).val ∧ (i 1).val < win0_5.index t (1 : Fin 2) * 256 + 256; omega

/-- The array after the run is `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 4096 := (i 0).isLt; have h1 : (i 1).val < 9472 := (i 1).isLt; omega))

/-! ## The run, read -/

/-- After the frame run, output window 5's array is as its write-backs leave it. -/
theorem post5 (r : PUnit × MemSt nD τ sig (Elt Ideal)) (h : Pipeline.FramePost cfgs (dats m) 0 (V m) r) (c : Dev nD) :
    r.2.mem ((c : Thread nD τ).loc main_v3) = (dats m 0 c).arrAt 5 cfg0.N :=
  (h c).1 5

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 3 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 0 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run: the result array at `G5`, the arguments unchanged. -/
theorem run : θ_run defs (onTc (τ := τ) main) ⟨m, fun _ => 0, ρ⟩ fun r => ∀ c : Dev nD,
      r.2.mem ((c : Thread nD τ).loc main_v3) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.Proof.Value

end

end
-- ==== Proof.RefValue.lean ====
/-
  What the reference leaves: its one payload (`k0_pay1`), read at an index, is the product of Spec.lean.
-/
module

public import proofs.«01_k».proof.Proof.Spec
public import proofs.«01_k».proof.Proof.Gen.ReferenceIdeal.Skeleton

@[expose] public section

noncomputable section

namespace Cert.Proof.Ref

open Idealize.ShloMosaic Idealize.ShloMosaic.ValueIdx
open Cert.ReferenceIdeal Cert.ReferenceIdeal.Gen Cert.Proof.Spec
open scoped BigOperators

abbrev D := dot_S1x4096x3584_S3584x9472_S1x4096x9472_2_0_01_1_n_n

/-- The product's operand indices, coordinate by coordinate: the left operand is read at (0, row, k), -/
theorem lhs_0 (j : S1x4096x9472.Idx) (k : D.contr.Idx) : (D.lhsIdx j k 0 : ℕ) = j 0 := by
  have h1 := (D.lhsIdx j k 0).isLt
  have h2 := (j 0).isLt
  exact (Nat.lt_one_iff.mp h1).trans (Nat.lt_one_iff.mp h2).symm
theorem lhs_1 (j : S1x4096x9472.Idx) (k : D.contr.Idx) : (D.lhsIdx j k 1 : ℕ) = j 1 := by
  simp [DotDims.lhsIdx, D, dot_S1x4096x3584_S3584x9472_S1x4096x9472_2_0_01_1_n_n]; rfl
theorem lhs_2 (j : S1x4096x9472.Idx) (k : D.contr.Idx) : (D.lhsIdx j k 2 : ℕ) = k ⟨0, by decide⟩ := by
  simp [DotDims.lhsIdx, D, dot_S1x4096x3584_S3584x9472_S1x4096x9472_2_0_01_1_n_n]; rfl
/-- and the right operand at (k, column). -/
theorem rhs_0 (j : S1x4096x9472.Idx) (k : D.contr.Idx) : (D.rhsIdx j k 0 : ℕ) = k ⟨0, by decide⟩ := by
  simp [DotDims.rhsIdx, D, dot_S1x4096x3584_S3584x9472_S1x4096x9472_2_0_01_1_n_n]; rfl
theorem rhs_1 (j : S1x4096x9472.Idx) (k : D.contr.Idx) : (D.rhsIdx j k 1 : ℕ) = j 2 := by
  simp [DotDims.rhsIdx, D, dot_S1x4096x3584_S3584x9472_S1x4096x9472_2_0_01_1_n_n]; rfl

/-- The contraction's indices are the 3584 columns. -/
def ce : D.contr.Idx ≃ Fin 3584 := contrEquiv1 D 3584 (by decide) (by decide)

/-- The reference's product at an index: the accumulator plus the sum over the 3584 columns. -/
theorem matmul_at (a : FVec Ideal S1x4096x3584 .bf16) (b : FVec Ideal S3584x9472 .bf16)
    (acc : FVec Ideal S1x4096x9472 .f32) (r : Fin 4096) (n : Fin 9472) :
    matmul D none a b acc (ix3 0 r n) = acc (ix3 0 r n) + ∑ k : Fin 3584, (a (ix3 0 r k) * b (ix2 k n) : EReal) := by
  refine congrArg (acc (ix3 0 r n) + ·) ?_
  refine (Equiv.sum_comp ce.symm _).symm.trans ?_
  refine Finset.sum_congr rfl fun k _ => ?_
  have hk : ((ce.symm k) ⟨0, by decide⟩ : ℕ) = k.val := contrEquiv1_symm_val D 3584 (by decide) (by decide) k
  have ha : D.lhsIdx (ix3 0 r n) (ce.symm k) = ix3 0 r k := by
    funext d; match d with
    | ⟨0, _⟩ => exact Fin.ext (lhs_0 _ _)
    | ⟨1, _⟩ => exact Fin.ext (lhs_1 _ _)
    | ⟨2, _⟩ => exact Fin.ext ((lhs_2 _ _).trans hk)
  have hb : D.rhsIdx (ix3 0 r n) (ce.symm k) = ix2 k n := by
    funext d; match d with
    | ⟨0, _⟩ => exact Fin.ext ((rhs_0 _ _).trans hk)
    | ⟨1, _⟩ => exact Fin.ext (rhs_1 _ _)
  exact congr_arg₂ (fun p q => (a p * b q : EReal)) ha hb

section At
variable {α : Type}

/-- Splitting the 3584 columns into 28 groups of 128 and back, at an index. -/
theorem cast_x (v : S1x4096x3584.Idx → α) (r : Fin 4096) (g : Fin 28) (l : Fin 128) (h) :
    shapeCast S1x4096x28x128 v h (ix4 0 r g l) = v (ix3 0 r ⟨g.val * 128 + l.val, by omega⟩) :=
  shapeCast_apply _ _ _ _ (by
    rw [Shape.rowMajor_val_three, Shape.rowMajor_val_four]
    show (0 * 4096 + r.val) * 3584 + (g.val * 128 + l.val) = ((0 * 4096 + r.val) * 28 + g.val) * 128 + l.val
    omega)
theorem uncast_x (v : S1x4096x28x128.Idx → α) (r : Fin 4096) (k : Fin 3584) (h) :
    shapeCast S1x4096x3584 v h (ix3 0 r k) = v (ix4 0 r (grp k) ⟨k.val % 128, by omega⟩) :=
  shapeCast_apply _ _ _ _ (by
    rw [Shape.rowMajor_val_three, Shape.rowMajor_val_four]
    show ((0 * 4096 + r.val) * 28 + k.val / 128) * 128 + k.val % 128 = (0 * 4096 + r.val) * 3584 + k.val
    omega)
/-- The activation scales with a unit axis added, at an index. -/
theorem cast_xs (v : S1x4096x28.Idx → α) (r : Fin 4096) (g : Fin 28) (h) :
    shapeCast S1x4096x28x1 v h (ix4 0 r g 0) = v (ix3 0 r g) :=
  shapeCast_apply _ _ _ _ (by
    rw [Shape.rowMajor_val_three, Shape.rowMajor_val_four]
    show (0 * 4096 + r.val) * 28 + g.val = ((0 * 4096 + r.val) * 28 + g.val) * 1 + 0
    omega)
/-- and repeated over the 128 columns of their group. -/
theorem bcast_xs (v : S1x4096x28x1.Idx → α) (r : Fin 4096) (g : Fin 28) (l : Fin 128) (h) :
    broadcastTo S1x4096x28x128 v h (ix4 0 r g l) = v (ix4 0 r g 0) :=
  broadcastTo_apply _ _ _ _ (fun a => by
    match a with
    | ⟨0, _⟩ => rfl
    | ⟨1, _⟩ => rfl
    | ⟨2, _⟩ => rfl
    | ⟨3, _⟩ => rfl)
/-- Splitting the weight into 128 by 128 tiles and back, at an index. -/
theorem cast_w (v : S3584x9472.Idx → α) (g : Fin 28) (l : Fin 128) (q : Fin 74) (p : Fin 128) (h) :
    shapeCast S28x128x74x128 v h (ix4 g l q p)
      = v (ix2 ⟨g.val * 128 + l.val, by omega⟩ ⟨q.val * 128 + p.val, by omega⟩) :=
  shapeCast_apply _ _ _ _ (by
    rw [Shape.rowMajor_val_two, Shape.rowMajor_val_four]
    show (g.val * 128 + l.val) * 9472 + (q.val * 128 + p.val) = ((g.val * 128 + l.val) * 74 + q.val) * 128 + p.val
    omega)
theorem uncast_w (v : S28x128x74x128.Idx → α) (k : Fin 3584) (n : Fin 9472) (h) :
    shapeCast S3584x9472 v h (ix2 k n)
      = v (ix4 (grp k) ⟨k.val % 128, by omega⟩ (grpN n) ⟨n.val % 128, by omega⟩) :=
  shapeCast_apply _ _ _ _ (by
    rw [Shape.rowMajor_val_two, Shape.rowMajor_val_four]
    show ((k.val / 128 * 128 + k.val % 128) * 74 + n.val / 128) * 128 + n.val % 128 = k.val * 9472 + n.val
    omega)
/-- The weight scales with two unit axes added, at an index, -/
theorem cast_ws (v : S28x74.Idx → α) (g : Fin 28) (q : Fin 74) (h) :
    shapeCast S28x1x74x1 v h (ix4 g 0 q 0) = v (ix2 g q) :=
  shapeCast_apply _ _ _ _ (by
    rw [Shape.rowMajor_val_two, Shape.rowMajor_val_four]
    show g.val * 74 + q.val = ((g.val * 1 + 0) * 74 + q.val) * 1 + 0
    omega)
/-- and repeated over their tile. -/
theorem bcast_ws (v : S28x1x74x1.Idx → α) (g : Fin 28) (l : Fin 128) (q : Fin 74) (p : Fin 128) (h) :
    broadcastTo S28x128x74x128 v h (ix4 g l q p) = v (ix4 g 0 q 0) :=
  broadcastTo_apply _ _ _ _ (fun a => by
    match a with
    | ⟨0, _⟩ => rfl
    | ⟨1, _⟩ => rfl
    | ⟨2, _⟩ => rfl
    | ⟨3, _⟩ => rfl)
/-- The result with its leading unit axis dropped, at an index. -/
theorem cast_out (v : S1x4096x9472.Idx → α) (r : Fin 4096) (n : Fin 9472) (h) :
    shapeCast S4096x9472 v h (ix2 r n) = v (ix3 0 r n) :=
  shapeCast_apply _ _ _ _ (by
    rw [Shape.rowMajor_val_two, Shape.rowMajor_val_three]
    show (0 * 4096 + r.val) * 9472 + n.val = r.val * 9472 + n.val
    omega)

end At

/-- The reference's payload at an index is the specified element. -/
theorem pay_at (x : Vec Ideal S1x4096x3584 .fp8e4m3) (xs : Vec Ideal S1x4096x28 .f32) (w : Vec Ideal S3584x9472 .fp8e4m3)
    (ws : Vec Ideal S28x74 .f32) (res : Vec Ideal S1x4096x9472 .bf16) (r : Fin 4096) (n : Fin 9472) :
    k0_pay1 (F := Ideal) x xs w ws res (ix2 r n) = oute x xs w ws res r n := by
  unfold k0_pay1
  refine (cast_out _ r n _).trans ?_
  rw [truncf_apply, addf_apply, extf_apply, matmul_at, constant_apply, ofBits_zero, zero_add]
  unfold oute
  refine congrArg (· + res (ix3 0 r n)) ?_
  refine Finset.sum_congr rfl fun k _ => ?_
  have hx : (⟨(grp k).val * 128 + k.val % 128, by omega⟩ : Fin 3584) = k := Fin.ext (by show k.val / 128 * 128 + k.val % 128 = k.val; omega)
  have hn : (⟨(grpN n).val * 128 + n.val % 128, by omega⟩ : Fin 9472) = n := Fin.ext (by show n.val / 128 * 128 + n.val % 128 = n.val; omega)
  refine congr_arg₂ (fun p q : EReal => p * q) ?_ ?_
  · rw [uncast_x, mulf_apply, cast_x, bcast_xs, cast_xs, extf_apply, truncf_apply, hx]; rfl
  · rw [uncast_w, mulf_apply, cast_w, bcast_ws, cast_ws, extf_apply, truncf_apply, hx, hn]; rfl

end Cert.Proof.Ref

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference's result, index by index the specification, is the kernel's result array `Value.G5` when the two runs
    start from equal arguments. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Value.G5 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = Value.G5 m c := by
  funext i
  have hi : i = ValueIdx.ix2 (i 0) (i 1) := by
    funext a
    match a with
    | ⟨0, _⟩ => rfl
    | ⟨1, _⟩ => rfl
  exact (congrArg _ hi).trans (Ref.pay_at _ _ _ _ _ (i 0) (i 1))

/-- From equal arguments, the idealized kernel and the idealized reference both run, end with equal results and leave
    their arguments unchanged. -/
theorem algebraic :
    Cert.algebraic_KernelIdeal_ReferenceIdeal (hKernelIdeal := Cert.KernelIdeal.Gen.facts)
      (hReferenceIdeal := Cert.ReferenceIdeal.Gen.facts) := by
  intro m g m' g' _ hargs
  refine ⟨fun c => Value.G5 m c, Value.run m g, ?_⟩
  refine (θ_run Cert.ReferenceIdeal.defs _ _).mono (fun r h c => ?_) (Cert.ReferenceIdeal.Value.run (F := Ideal) m' g')
  refine ⟨(h c).1.trans ?_, (h c).2⟩
  obtain ⟨e0, e1, e2, e3, e4⟩ := hargs c
  refine Eq.trans ?_ (result_eq m c)
  rw [e0, e1, e2, e3, e4]

/-- Every claim of the certificate: the three programs run and keep their arguments, the idealization is the program's
    own text, and the idealized kernel and reference compute equal results. -/
theorem claim : Cert.Claim := ⟨Cert.Kernel.Gen.facts, Cert.KernelIdeal.Gen.facts, Cert.ReferenceIdeal.Gen.facts,
  fun m ρ _ => Cert.Proof.KernelFrame.frame m ρ,
  fun m ρ _ => Cert.Proof.Frame.frame m ρ,
  fun m ρ _ => Cert.ReferenceIdeal.Gen.frame m ρ,
  trivial,
  algebraic⟩

end Cert.Proof

end
